-- ==== Defs.lean ====
def Pre_Kernel [hPre_ranked : Cert.Pre_ranked.Facts] (m : (ℓ : Loc Cert.Kernel.nD Cert.Kernel.τ Cert.Kernel.sig) → Buf (Elt Bits) ℓ) : Prop :=
  ∀ c : Dev Cert.Kernel.nD,
    (Cert.Pre_ranked.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ranked : Cert.Pre_ranked.Facts] (m : (ℓ : Loc Cert.KernelIdeal.nD Cert.KernelIdeal.τ Cert.KernelIdeal.sig) → Buf (Elt Ideal) ℓ) : Prop :=
  ∀ c : Dev Cert.KernelIdeal.nD,
    (Cert.Pre_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranked [hPre_ranked : Cert.Pre_ranked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_ranked : Cert.Pre_ranked.Facts] (m : (ℓ : Loc Cert.Reference.nD Cert.Reference.τ Cert.Reference.sig) → Buf (Elt Bits) ℓ) : Prop :=
  ∀ c : Dev Cert.Reference.nD,
    (Cert.Pre_ranked.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_ranked : Cert.Pre_ranked.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ranked [hReferenceIdeal : Cert.ReferenceIdeal.Facts] [hPre_ranked : Cert.Pre_ranked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_ranked : Cert.Pre_ranked.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_ranked : Cert.Pre_ranked.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v37)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v37) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v27) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v9_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v9_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v54) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_ranked : Cert.Pre_ranked.Facts),
    quiescent_Kernel (hKernel := hKernel) (hPre_ranked := hPre_ranked)
    ∧ quiescent_KernelIdeal (hKernelIdeal := hKernelIdeal) (hPre_ranked := hPre_ranked)
    ∧ quiescent_ReferenceIdeal (hReferenceIdeal := hReferenceIdeal)
    ∧ quiescent_ReferenceIdeal_pre_ranked (hReferenceIdeal := hReferenceIdeal) (hPre_ranked := hPre_ranked)
    ∧ quiescent_Reference (hReference := hReference) (hPre_ranked := hPre_ranked)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_ranked := hPre_ranked)
    ∧ bitexact_Kernel_Reference (hKernel := hKernel) (hReference := hReference) (hPre_ranked := hPre_ranked)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_ranked.lean ====
abbrev S64x8x256 : Shape := ⟨3, ![64, 8, 256]⟩
abbrev S32x128 : Shape := ⟨2, ![32, 128]⟩
abbrev S16384x2048 : Shape := ⟨2, ![16384, 2048]⟩
abbrev S64x1x256 : Shape := ⟨3, ![64, 1, 256]⟩
abbrev S64x256 : Shape := ⟨2, ![64, 256]⟩
abbrev S16384 : Shape := ⟨1, ![16384]⟩
abbrev S16384x1 : Shape := ⟨2, ![16384, 1]⟩
abbrev S16384x2 : Shape := ⟨2, ![16384, 2]⟩
abbrev S32768 : Shape := ⟨1, ![32768]⟩
abbrev S32768x1 : Shape := ⟨2, ![32768, 1]⟩
abbrev S1x32768 : Shape := ⟨2, ![1, 32768]⟩
abbrev S32768x32768 : Shape := ⟨2, ![32768, 32768]⟩
abbrev S32 : Shape := ⟨1, ![32]⟩
abbrev S32x1 : Shape := ⟨2, ![32, 1]⟩
abbrev S32x32768 : Shape := ⟨2, ![32, 32768]⟩
abbrev S_ : Shape := ⟨0, ![]⟩

class Facts : Prop where
  slices_S64x8x256_S64x1x256_0_0_0 : S64x8x256.Slices ![0, 0, 0] S64x1x256
  shapeCasts_S64x1x256_S64x256 : S64x1x256.ShapeCasts S64x256
  shapeCasts_S64x256_S16384 : S64x256.ShapeCasts S16384
  slices_S64x8x256_S64x1x256_0_1_0 : S64x8x256.Slices ![0, 1, 0] S64x1x256
  bcast_S16384_S16384x1_0 : S16384.BroadcastsInDim S16384x1 (![0] : Fin 1 → Fin S16384x1.rank)
  concatenates_S16384x1_S16384x1_S16384x2_d1 : Shape.Concatenates [S16384x1, S16384x1] S16384x2 1
  shapeCasts_S16384x2_S32768 : S16384x2.ShapeCasts S32768
  slices_S64x8x256_S64x1x256_0_2_0 : S64x8x256.Slices ![0, 2, 0] S64x1x256
  slices_S64x8x256_S64x1x256_0_3_0 : S64x8x256.Slices ![0, 3, 0] S64x1x256
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)
  bcast_S32_S32x1_0 : S32.BroadcastsInDim S32x1 (![0] : Fin 1 → Fin S32x1.rank)
  bcast_S1x32768_S32x32768_0_1 : S1x32768.BroadcastsInDim S32x32768 (![0, 1] : Fin 2 → Fin S32x32768.rank)
  bcast_S32x1_S32x32768_0_1 : S32x1.BroadcastsInDim S32x32768 (![0, 1] : Fin 2 → Fin S32x32768.rank)
  natLt_1_32 : 1 < 32
  reducesTo_S32x32768_S32_d1 : S32x32768.ReducesTo [1] S32
  h_S_ : 0 < S_.numel
  slices_S32x128_S32x1_0_0 : S32x128.Slices ![0, 0] S32x1
  shapeCasts_S32x1_S32 : S32x1.ShapeCasts S32
  bcast_S_S32768 : S_.BroadcastsInDim S32768 (![] : Fin 0 → Fin S32768.rank)
  reducesTo_S32768x32768_S32768_d1 : S32768x32768.ReducesTo [1] S32768
  reducesTo_S32_S_d0 : S32.ReducesTo [0] S_

variable [Facts]

def fn_part2 {F : FTy → Type} [FloatOps F] (main_v9 : IVec S32768 32) (main_v19 : IVec S32768 32) (main_v31 : IVec S32768x32768 1) (main_v43 : IVec S32 1) (main_v45 : IVec S32768 1) : IVec S32768 1 :=
  let main_c_1 : IVec S_ 32 := constantI S_ 32 32#32
  let main_v46 : IVec S32768 32 := broadcastInDim S32768 ![] bcast_S_S32768 main_c_1
  let main_v47 : IVec S32768 1 := cmpi .slt main_v9 main_v46
  let main_v48 : IVec S32768 1 := andi main_v45 main_v47
  let main_v49 : IVec S32768x32768 32 := (extui 32 · natLt_1_32) main_v31
  let main_c_2 : IVec S_ 32 := constantI S_ 32 0#32
  let main_v50 : IVec S32768 32 := (fun x v => Host.reduce IntOp.addi x v reducesTo_S32768x32768_S32768_d1 h_S_) main_v49 main_c_2
  let main_v51 : IVec S32768 1 := cmpi .eq main_v50 main_v19
  let main_v52 : IVec S32768 1 := andi main_v48 main_v51
  let main_c_3 : IVec S_ 1 := constantI S_ 1 1#1
  let main_v53 : IVec S_ 1 := (fun x v => Host.reduce IntOp.andi x v reducesTo_S32_S_d0 h_S_) main_v43 main_c_3
  let main_v54 : IVec S32768 1 := broadcastInDim S32768 ![] bcast_S_S32768 main_v53
  let main_v55 : IVec S32768 1 := andi main_v52 main_v54
  main_v55

def fn_part1 {F : FTy → Type} [FloatOps F] (main_arg1 : FVec F S32x128 .f32) (main_v9 : IVec S32768 32) (main_v19 : IVec S32768 32) (main_v20 : IVec S32768 32) (main_v22 : IVec S1x32768 32) (main_v23 : IVec S32768x32768 32) : IVec S32768 1 :=
  let main_v24 : IVec S32768x32768 32 := broadcastInDim S32768x32768 ![0, 1] bcast_S1x32768_S32768x32768_0_1 main_v22
  let main_v25 : IVec S32768x32768 1 := cmpi .eq main_v23 main_v24
  let main_v26 : IVec S1x32768 32 := broadcastInDim S1x32768 ![1] bcast_S32768_S1x32768_1 main_v20
  let main_v27 : IVec S32768x1 32 := broadcastInDim S32768x1 ![0] bcast_S32768_S32768x1_0 main_v20
  let main_v28 : IVec S32768x32768 32 := broadcastInDim S32768x32768 ![0, 1] bcast_S1x32768_S32768x32768_0_1 main_v26
  let main_v29 : IVec S32768x32768 32 := broadcastInDim S32768x32768 ![0, 1] bcast_S32768x1_S32768x32768_0_1 main_v27
  let main_v30 : IVec S32768x32768 1 := cmpi .slt main_v28 main_v29
  let main_v31 : IVec S32768x32768 1 := andi main_v25 main_v30
  let main_v32 : IVec S1x32768 32 := broadcastInDim S1x32768 ![1] bcast_S32768_S1x32768_1 main_v9
  let main_v33 : IVec S32 32 := iotaInDim S32 32 0
  let main_v34 : IVec S32x1 32 := broadcastInDim S32x1 ![0] bcast_S32_S32x1_0 main_v33
  let main_v35 : IVec S32x32768 32 := broadcastInDim S32x32768 ![0, 1] bcast_S1x32768_S32x32768_0_1 main_v32
  let main_v36 : IVec S32x32768 32 := broadcastInDim S32x32768 ![0, 1] bcast_S32x1_S32x32768_0_1 main_v34
  let main_v37 : IVec S32x32768 1 := cmpi .eq main_v35 main_v36
  let main_v38 : IVec S32x32768 32 := (extui 32 · natLt_1_32) main_v37
  let main_c : IVec S_ 32 := constantI S_ 32 0#32
  let main_v39 : IVec S32 32 := (fun x v => Host.reduce IntOp.addi x v reducesTo_S32x32768_S32_d1 h_S_) main_v38 main_c
  let main_v40 : FVec F S32x1 .f32 := (extractStridedSlice S32x1 ![0, 0] · slices_S32x128_S32x1_0_0) main_arg1
  let main_v41 : FVec F S32 .f32 := shapeCast S32 main_v40 shapeCasts_S32x1_S32
  let main_v42 : IVec S32 32 := fptosi 32 main_v41
  let main_v43 : IVec S32 1 := cmpi .eq main_v39 main_v42
  let main_c_0 : IVec S_ 32 := constantI S_ 32 0#32
  let main_v44 : IVec S32768 32 := broadcastInDim S32768 ![] bcast_S_S32768 main_c_0
  let main_v45 : IVec S32768 1 := cmpi .sge main_v9 main_v44
  fn_part2 (F := F) main_v9 main_v19 main_v31 main_v43 main_v45

def fn {F : FTy → Type} [FloatOps F] (main_arg0 : IVec S64x8x256 32) (main_arg1 : FVec F S32x128 .f32) (main_arg2 : FVec F S16384x2048 .f32) : IVec S32768 1 :=
  let main_v0 : IVec S64x1x256 32 := (extractStridedSlice S64x1x256 ![0, 0, 0] · slices_S64x8x256_S64x1x256_0_0_0) main_arg0
  let main_v1 : IVec S64x256 32 := shapeCast S64x256 main_v0 shapeCasts_S64x1x256_S64x256
  let main_v2 : IVec S16384 32 := shapeCast S16384 main_v1 shapeCasts_S64x256_S16384
  let main_v3 : IVec S64x1x256 32 := (extractStridedSlice S64x1x256 ![0, 1, 0] · slices_S64x8x256_S64x1x256_0_1_0) main_arg0
  let main_v4 : IVec S64x256 32 := shapeCast S64x256 main_v3 shapeCasts_S64x1x256_S64x256
  let main_v5 : IVec S16384 32 := shapeCast S16384 main_v4 shapeCasts_S64x256_S16384
  let main_v6 : IVec S16384x1 32 := broadcastInDim S16384x1 ![0] bcast_S16384_S16384x1_0 main_v2
  let main_v7 : IVec S16384x1 32 := broadcastInDim S16384x1 ![0] bcast_S16384_S16384x1_0 main_v5
  let main_v8 : IVec S16384x2 32 := (fun a b => concatenate S16384x2 1 [⟨S16384x1, a⟩, ⟨S16384x1, b⟩] concatenates_S16384x1_S16384x1_S16384x2_d1) main_v6 main_v7
  let main_v9 : IVec S32768 32 := shapeCast S32768 main_v8 shapeCasts_S16384x2_S32768
  let main_v10 : IVec S64x1x256 32 := (extractStridedSlice S64x1x256 ![0, 2, 0] · slices_S64x8x256_S64x1x256_0_2_0) main_arg0
  let main_v11 : IVec S64x256 32 := shapeCast S64x256 main_v10 shapeCasts_S64x1x256_S64x256
  let main_v12 : IVec S16384 32 := shapeCast S16384 main_v11 shapeCasts_S64x256_S16384
  let main_v13 : IVec S64x1x256 32 := (extractStridedSlice S64x1x256 ![0, 3, 0] · slices_S64x8x256_S64x1x256_0_3_0) main_arg0
  let main_v14 : IVec S64x256 32 := shapeCast S64x256 main_v13 shapeCasts_S64x1x256_S64x256
  let main_v15 : IVec S16384 32 := shapeCast S16384 main_v14 shapeCasts_S64x256_S16384
  let main_v16 : IVec S16384x1 32 := broadcastInDim S16384x1 ![0] bcast_S16384_S16384x1_0 main_v12
  let main_v17 : IVec S16384x1 32 := broadcastInDim S16384x1 ![0] bcast_S16384_S16384x1_0 main_v15
  let main_v18 : IVec S16384x2 32 := (fun a b => concatenate S16384x2 1 [⟨S16384x1, a⟩, ⟨S16384x1, b⟩] concatenates_S16384x1_S16384x1_S16384x2_d1) main_v16 main_v17
  let main_v19 : IVec S32768 32 := shapeCast S32768 main_v18 shapeCasts_S16384x2_S32768
  let main_v20 : IVec S32768 32 := iotaInDim S32768 32 0
  let main_v21 : IVec S32768x1 32 := broadcastInDim S32768x1 ![0] bcast_S32768_S32768x1_0 main_v9
  let main_v22 : IVec S1x32768 32 := broadcastInDim S1x32768 ![1] bcast_S32768_S1x32768_1 main_v9
  let main_v23 : IVec S32768x32768 32 := broadcastInDim S32768x32768 ![0, 1] bcast_S32768x1_S32768x32768_0_1 main_v21
  fn_part1 (F := F) main_arg1 main_v9 main_v19 main_v20 main_v22 main_v23
-- ==== Kernel.lean ====
abbrev S64x8x256 : Shape := ⟨3, ![64, 8, 256]⟩
abbrev S32x128 : Shape := ⟨2, ![32, 128]⟩
abbrev S16384x2048 : Shape := ⟨2, ![16384, 2048]⟩
abbrev S32x1 : Shape := ⟨2, ![32, 1]⟩
abbrev S32 : Shape := ⟨1, ![32]⟩
abbrev S_ : Shape := ⟨0, ![]⟩
abbrev S64x1x256 : Shape := ⟨3, ![64, 1, 256]⟩
abbrev S64x256 : Shape := ⟨2, ![64, 256]⟩
abbrev S16384 : Shape := ⟨1, ![16384]⟩
abbrev S16384x1 : Shape := ⟨2, ![16384, 1]⟩
abbrev S16384x2 : Shape := ⟨2, ![16384, 2]⟩
abbrev S32768 : Shape := ⟨1, ![32768]⟩
abbrev S32768x2048 : Shape := ⟨2, ![32768, 2048]⟩
abbrev S256x2048 : Shape := ⟨2, ![256, 2048]⟩
abbrev S1 : Shape := ⟨1, ![1]⟩
abbrev S1x2048 : Shape := ⟨2, ![1, 2048]⟩

abbrev nBuf : Space → Nat
  | .hbm => 46
  | .vmem => 2
  | .smem => 1
  | _ => 0

abbrev bufTy : (tb : Table) → Fin (tcTables nBuf tb) → BufTy
  | .hbm, ⟨0, _⟩ => ⟨S64x8x256, .i32⟩
  | .hbm, ⟨1, _⟩ => ⟨S32x128, .f32⟩
  | .hbm, ⟨2, _⟩ => ⟨S16384x2048, .f32⟩
  | .hbm, ⟨3, _⟩ => ⟨S32x1, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S64x1x256, .i32⟩
  | .hbm, ⟨11, _⟩ => ⟨S64x256, .i32⟩
  | .hbm, ⟨12, _⟩ => ⟨S16384, .i32⟩
  | .hbm, ⟨13, _⟩ => ⟨S64x1x256, .i32⟩
  | .hbm, ⟨14, _⟩ => ⟨S64x256, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384, .i32⟩
  | .hbm, ⟨25, _⟩ => ⟨S64x1x256, .i32⟩
  | .hbm, ⟨26, _⟩ => ⟨S64x256, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384, .i32⟩
  | .hbm, ⟨38, _⟩ => ⟨S64x1x256, .i32⟩
  | .hbm, ⟨39, _⟩ => ⟨S64x256, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x1, .i32⟩
  | .hbm, ⟨44, _⟩ => ⟨S16384x2, .i32⟩
  | .hbm, ⟨45, _⟩ => ⟨S32768x2048, .f32⟩
  | .local _ .vmem, ⟨0, _⟩ => ⟨S256x2048, .f32⟩
  | .local _ .vmem, ⟨1, _⟩ => ⟨S256x2048, .f32⟩
  | .local _ .smem, ⟨0, _⟩ => ⟨S32768, .i32⟩
  | _, _ => ⟨S64x8x256, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v37 : Ref sig .tc := ⟨.hbm, 45, rfl⟩
abbrev main_v36 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let c2_i32 : BitVec 32 := 2#32
  let arg0 : BitVec 32 := BitVec.ofNat 32 (i 0).val
  let c256_i32_5 : BitVec 32 := 256#32
  let v2 : BitVec 32 := Scalar.muli arg0 c256_i32_5
  let c0_i32 : BitVec 32 := 0#32
  let c1_i32 : BitVec 32 := 1#32
  let arg5 : BitVec 32 := Scf.iv c0_i32 c1_i32 k0_t1
  let v3 : BitVec 32 := Scalar.addi v2 arg5
  let v4 : BitVec 32 := Scalar.muli c2_i32 v3
  let c0_i32_6 : BitVec 32 := 0#32
  let v5 : BitVec 32 := Scalar.addi v4 c0_i32_6
  let v6 : Index := Scalar.indexCast v5
  ![v6.toNat]
def k0_off2 (v7 : BitVec 32) : Fin 2 → Nat :=
  let c0_i32_7 : BitVec 32 := 0#32
  ![v7.toNat, 0]

def k0_chk1 (v7 : BitVec 32) : Prop :=
  (∀ a, (k0_off2 v7) a + S1x2048.size a ≤ S32768x2048.size a)
theorem k0_off2_inb : ∀ (v7 : BitVec 32) (k0_hw1 : k0_chk1 v7), ∀ a, (k0_off2 v7) a + S1x2048.size a ≤ S32768x2048.size a := fun v7 k0_hw1 => k0_hw1

def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_8 : BitVec 32 := 0#32
  ![arg5.toNat, 0]
def k0_off4 (i : grid0.Coords) (k0_t1 : Fin k0_t1_loop.trips) : Fin 1 → Nat :=
  let c2_i32_10 : BitVec 32 := 2#32
  let arg0 : BitVec 32 := BitVec.ofNat 32 (i 0).val
  let c256_i32_9 : BitVec 32 := 256#32
  let v10 : BitVec 32 := Scalar.muli arg0 c256_i32_9
  let c0_i32 : BitVec 32 := 0#32
  let c1_i32 : BitVec 32 := 1#32
  let arg5 : BitVec 32 := Scf.iv c0_i32 c1_i32 k0_t1
  let v11 : BitVec 32 := Scalar.addi v10 arg5
  let v12 : BitVec 32 := Scalar.muli c2_i32_10 v11
  let c1_i32_11 : BitVec 32 := 1#32
  let v13 : BitVec 32 := Scalar.addi v12 c1_i32_11
  let v14 : Index := Scalar.indexCast v13
  ![v14.toNat]
def k0_off5 (v15 : BitVec 32) : Fin 2 → Nat :=
  let c0_i32_12 : BitVec 32 := 0#32
  ![v15.toNat, 0]

def k0_chk2 (v15 : BitVec 32) : Prop :=
  (∀ a, (k0_off5 v15) a + S1x2048.size a ≤ S32768x2048.size a)
theorem k0_off5_inb : ∀ (v15 : BitVec 32) (k0_hw2 : k0_chk2 v15), ∀ a, (k0_off5 v15) a + S1x2048.size a ≤ S32768x2048.size a := fun v15 k0_hw2 => k0_hw2

def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_13 : BitVec 32 := 0#32
  ![arg5.toNat, 0]
@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (i : grid0.Coords) (k0_t2 : Fin k0_t2_loop.trips) : Fin 1 → Nat :=
  let c2_i32 : BitVec 32 := 2#32
  let arg0 : BitVec 32 := BitVec.ofNat 32 (i 0).val
  let c256_i32_5 : BitVec 32 := 256#32
  let v2 : BitVec 32 := Scalar.muli arg0 c256_i32_5
  let c0_i32_1 : BitVec 32 := 0#32
  let c1_i32_3 : BitVec 32 := 1#32
  let arg5 : BitVec 32 := Scf.iv c0_i32_1 c1_i32_3 k0_t2
  let v3 : BitVec 32 := Scalar.addi v2 arg5
  let v4 : BitVec 32 := Scalar.muli c2_i32 v3
  let c0_i32_6 : BitVec 32 := 0#32
  let v5 : BitVec 32 := Scalar.addi v4 c0_i32_6
  let v6 : Index := Scalar.indexCast v5
  ![v6.toNat]
def k0_off8 (v7 : BitVec 32) : Fin 2 → Nat :=
  let c0_i32_7 : BitVec 32 := 0#32
  ![v7.toNat, 0]

def k0_chk3 (v7 : BitVec 32) : Prop :=
  (∀ a, (k0_off8 v7) a + S1x2048.size a ≤ S32768x2048.size a)
theorem k0_off8_inb : ∀ (v7 : BitVec 32) (k0_hw3 : k0_chk3 v7), ∀ a, (k0_off8 v7) a + S1x2048.size a ≤ S32768x2048.size a := fun v7 k0_hw3 => k0_hw3

def k0_off9 (k0_t2 : Fin k0_t2_loop.trips) : Fin 2 → Nat :=
  let c0_i32_1 : BitVec 32 := 0#32
  let c1_i32_3 : BitVec 32 := 1#32
  let arg5 : BitVec 32 := Scf.iv c0_i32_1 c1_i32_3 k0_t2
  let c0_i32_8 : BitVec 32 := 0#32
  ![arg5.toNat, 0]
def k0_off10 (i : grid0.Coords) (k0_t2 : Fin k0_t2_loop.trips) : Fin 1 → Nat :=
  let c2_i32_10 : BitVec 32 := 2#32
  let arg0 : BitVec 32 := BitVec.ofNat 32 (i 0).val
  let c256_i32_9 : BitVec 32 := 256#32
  let v10 : BitVec 32 := Scalar.muli arg0 c256_i32_9
  let c0_i32_1 : BitVec 32 := 0#32
  let c1_i32_3 : BitVec 32 := 1#32
  let arg5 : BitVec 32 := Scf.iv c0_i32_1 c1_i32_3 k0_t2
  let v11 : BitVec 32 := Scalar.addi v10 arg5
  let v12 : BitVec 32 := Scalar.muli c2_i32_10 v11
  let c1_i32_11 : BitVec 32 := 1#32
  let v13 : BitVec 32 := Scalar.addi v12 c1_i32_11
  let v14 : Index := Scalar.indexCast v13
  ![v14.toNat]
def k0_off11 (v15 : BitVec 32) : Fin 2 → Nat :=
  let c0_i32_12 : BitVec 32 := 0#32
  ![v15.toNat, 0]

def k0_chk4 (v15 : BitVec 32) : Prop :=
  (∀ a, (k0_off11 v15) a + S1x2048.size a ≤ S32768x2048.size a)
theorem k0_off11_inb : ∀ (v15 : BitVec 32) (k0_hw4 : k0_chk4 v15), ∀ a, (k0_off11 v15) a + S1x2048.size a ≤ S32768x2048.size a := fun v15 k0_hw4 => k0_hw4

def k0_off12 (k0_t2 : Fin k0_t2_loop.trips) : Fin 2 → Nat :=
  let c0_i32_1 : BitVec 32 := 0#32
  let c1_i32_3 : BitVec 32 := 1#32
  let arg5 : BitVec 32 := Scf.iv c0_i32_1 c1_i32_3 k0_t2
  let c0_i32_13 : BitVec 32 := 0#32
  ![arg5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S64x8x256 : Shape := ⟨3, ![64, 8, 256]⟩
abbrev S32x128 : Shape := ⟨2, ![32, 128]⟩
abbrev S16384x2048 : Shape := ⟨2, ![16384, 2048]⟩
abbrev S64x1x256 : Shape := ⟨3, ![64, 1, 256]⟩
abbrev S64x256 : Shape := ⟨2, ![64, 256]⟩
abbrev S16384 : Shape := ⟨1, ![16384]⟩
abbrev S16384x1 : Shape := ⟨2, ![16384, 1]⟩
abbrev S16384x2 : Shape := ⟨2, ![16384, 2]⟩
abbrev S32768 : Shape := ⟨1, ![32768]⟩
abbrev S_ : Shape := ⟨0, ![]⟩
abbrev S32768x1 : Shape := ⟨2, ![32768, 1]⟩
abbrev S32768x2048 : Shape := ⟨2, ![32768, 2048]⟩

abbrev nBuf : Space → Nat
  | .hbm => 37
  | .vmem => 0
  | .smem => 0
  | _ => 0

abbrev bufTy : (tb : Table) → Fin (tcTables nBuf tb) → BufTy
  | .hbm, ⟨0, _⟩ => ⟨S64x8x256, .i32⟩
  | .hbm, ⟨1, _⟩ => ⟨S32x128, .f32⟩
  | .hbm, ⟨2, _⟩ => ⟨S16384x2048, .f32⟩
  | .hbm, ⟨3, _⟩ => ⟨S64x1x256, .i32⟩
  | .hbm, ⟨4, _⟩ => ⟨S64x256, .i32⟩
  | .hbm, ⟨5, _⟩ => ⟨S16384, .i32⟩
  | .hbm, ⟨6, _⟩ => ⟨S64x1x256, .i32⟩
  | .hbm, ⟨7, _⟩ => ⟨S64x256, .i32⟩
  | .hbm, ⟨8, _⟩ => ⟨S16384, .i32⟩
  | .hbm, ⟨9, _⟩ => ⟨S16384x1, .i32⟩
  | .hbm, ⟨10, _⟩ => ⟨S16384x1, .i32⟩
  | .hbm, ⟨11, _⟩ => ⟨S16384x2, .i32⟩
  | .hbm, ⟨12, _⟩ => ⟨S32768, .i32⟩
  | .hbm, ⟨13, _⟩ => ⟨S16384, .i32⟩
  | .hbm, ⟨14, _⟩ => ⟨S16384x2, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S_, .i32⟩
  | .hbm, ⟨20, _⟩ => ⟨S32768, .i32⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768x1, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S32768x2048, .f32⟩
  | _, _ => ⟨S64x8x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1_0 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S4x12288 : Shape := ⟨2, ![4, 12288]⟩
abbrev S2048x3920 : Shape := ⟨2, ![2048, 3920]⟩
abbrev S16384x2048 : Shape := ⟨2, ![16384, 2048]⟩
abbrev S4x6x1x2048 : Shape := ⟨4, ![4, 6, 1, 2048]⟩
abbrev S2048x8 : Shape := ⟨2, ![2048, 8]⟩
abbrev S2048x72 : Shape := ⟨2, ![2048, 72]⟩
abbrev S2048x80 : Shape := ⟨2, ![2048, 80]⟩
abbrev S_ : Shape := ⟨0, ![]⟩
abbrev S2048x256 : Shape := ⟨2, ![2048, 256]⟩
abbrev S2048x768 : Shape := ⟨2, ![2048, 768]⟩
abbrev S2048x3072 : Shape := ⟨2, ![2048, 3072]⟩
abbrev S2048x4096 : Shape := ⟨2, ![2048, 4096]⟩
abbrev S1x2048 : Shape := ⟨2, ![1, 2048]⟩
abbrev S16384x4096 : Shape := ⟨2, ![16384, 4096]⟩
abbrev S16384x128 : Shape := ⟨2, ![16384, 128]⟩
abbrev S256x2048 : Shape := ⟨2, ![256, 2048]⟩
abbrev S1x1x1x2048 : Shape := ⟨4, ![1, 1, 1, 2048]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 19
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2048x3920, .f32⟩
  | .hbm, ⟨4, _⟩ => ⟨S16384x2048, .f32⟩
  | .hbm, ⟨5, _⟩ => ⟨S4x6x1x2048, .f32⟩
  | .hbm, ⟨6, _⟩ => ⟨S2048x8, .f32⟩
  | .hbm, ⟨7, _⟩ => ⟨S2048x72, .f32⟩
  | .hbm, ⟨8, _⟩ => ⟨S2048x80, .f32⟩
  | .hbm, ⟨9, _⟩ => ⟨S_, .i32⟩
  | .hbm, ⟨10, _⟩ => ⟨S_, .f32⟩
  | .hbm, ⟨11, _⟩ => ⟨S2048x256, .f32⟩
  | .hbm, ⟨12, _⟩ => ⟨S2048x768, .f32⟩
  | .hbm, ⟨13, _⟩ => ⟨S2048x3072, .f32⟩
  | .hbm, ⟨14, _⟩ => ⟨S2048x4096, .f32⟩
  | .hbm, ⟨15, _⟩ => ⟨S2048x4096, .bf16⟩
  | .hbm, ⟨16, _⟩ => ⟨S1x2048, .f32⟩
  | .hbm, ⟨17, _⟩ => ⟨S16384x4096, .bf16⟩
  | .hbm, ⟨18, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x4096, .bf16⟩
  | .local _ .vmem, ⟨8, _⟩ => ⟨S256x4096, .bf16⟩
  | .local _ .vmem, ⟨9, _⟩ => ⟨S256x4096, .bf16⟩
  | .local _ .vmem, ⟨10, _⟩ => ⟨S256x128, .f32⟩
  | .local _ .vmem, ⟨11, _⟩ => ⟨S256x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x4096x2048 : Shape := ⟨3, ![4, 4096, 2048]⟩
abbrev S2048 : Shape := ⟨1, ![2048]⟩
abbrev S4x12288 : Shape := ⟨2, ![4, 12288]⟩
abbrev S2048x3920 : Shape := ⟨2, ![2048, 3920]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x3920 : Shape := ⟨3, ![4, 4096, 3920]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x8 : Shape := ⟨3, ![4, 4096, 8]⟩
abbrev S4x4096x1024 : Shape := ⟨3, ![4, 4096, 1024]⟩
abbrev S4x4096x4 : Shape := ⟨3, ![4, 4096, 4]⟩
abbrev S4x4096x48 : Shape := ⟨3, ![4, 4096, 48]⟩
abbrev S4x4096x128 : Shape := ⟨3, ![4, 4096, 128]⟩
abbrev S4x4096x4096 : Shape := ⟨3, ![4, 4096, 4096]⟩
abbrev S16384x4096 : Shape := ⟨2, ![16384, 4096]⟩
abbrev S16384x128 : Shape := ⟨2, ![16384, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x12288, .f32⟩
  | .hbm, ⟨3, _⟩ => ⟨S2048x3920, .f32⟩
  | .hbm, ⟨4, _⟩ => ⟨S4x1x12288, .f32⟩
  | .hbm, ⟨5, _⟩ => ⟨S4x1x2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x4096x2048, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x3920, .f32⟩
  | .hbm, ⟨35, _⟩ => ⟨S4x4096x512, .f32⟩
  | .hbm, ⟨36, _⟩ => ⟨S4x4096x256, .f32⟩
  | .hbm, ⟨37, _⟩ => ⟨S4x4096x64, .f32⟩
  | .hbm, ⟨38, _⟩ => ⟨S4x4096x8, .f32⟩
  | .hbm, ⟨39, _⟩ => ⟨S4x4096x512, .f32⟩
  | .hbm, ⟨40, _⟩ => ⟨S4x4096x512, .f32⟩
  | .hbm, ⟨41, _⟩ => ⟨S4x4096x1024, .f32⟩
  | .hbm, ⟨42, _⟩ => ⟨S4x4096x1024, .f32⟩
  | .hbm, ⟨43, _⟩ => ⟨S4x4096x4, .f32⟩
  | .hbm, ⟨44, _⟩ => ⟨S4x4096x4, .f32⟩
  | .hbm, ⟨45, _⟩ => ⟨S_, .f32⟩
  | .hbm, ⟨46, _⟩ => ⟨S4x4096x48, .f32⟩
  | .hbm, ⟨47, _⟩ => ⟨S4x4096x128, .f32⟩
  | .hbm, ⟨48, _⟩ => ⟨S_, .f32⟩
  | .hbm, ⟨49, _⟩ => ⟨S4x4096x128, .f32⟩
  | .hbm, ⟨50, _⟩ => ⟨S4x4096x4096, .f32⟩
  | .hbm, ⟨51, _⟩ => ⟨S16384x4096, .f32⟩
  | .hbm, ⟨52, _⟩ => ⟨S16384x4096, .bf16⟩
  | .hbm, ⟨53, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel3.lean ====
abbrev S16384x1024 : Shape := ⟨2, ![16384, 1024]⟩
abbrev S4x4096x2048 : Shape := ⟨3, ![4, 4096, 2048]⟩
abbrev S4x12288 : Shape := ⟨2, ![4, 12288]⟩
abbrev S2048 : Shape := ⟨1, ![2048]⟩
abbrev S2048x2048 : Shape := ⟨2, ![2048, 2048]⟩
abbrev S2048x32 : Shape := ⟨2, ![2048, 32]⟩
abbrev S32 : Shape := ⟨1, ![32]⟩
abbrev S16384x2048 : Shape := ⟨2, ![16384, 2048]⟩
abbrev S4x6x1x2048 : Shape := ⟨4, ![4, 6, 1, 2048]⟩
abbrev S_ : Shape := ⟨0, ![]⟩
abbrev S2048x128 : Shape := ⟨2, ![2048, 128]⟩
abbrev S2048x256 : Shape := ⟨2, ![2048, 256]⟩
abbrev S1x2048 : Shape := ⟨2, ![1, 2048]⟩
abbrev S32x1 : Shape := ⟨2, ![32, 1]⟩
abbrev S64x8x256 : Shape := ⟨3, ![64, 8, 256]⟩
abbrev S32x128 : Shape := ⟨2, ![32, 128]⟩
abbrev S256x1024 : Shape := ⟨2, ![256, 1024]⟩
abbrev S256x2048 : Shape := ⟨2, ![256, 2048]⟩
abbrev S1x1x1x2048 : Shape := ⟨4, ![1, 1, 1, 2048]⟩
abbrev S1x8x256 : Shape := ⟨3, ![1, 8, 256]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x256 : Shape := ⟨2, ![128, 256]⟩
abbrev S32x256 : Shape := ⟨2, ![32, 256]⟩
abbrev S8x256 : Shape := ⟨2, ![8, 256]⟩
abbrev S1x256 : Shape := ⟨2, ![1, 256]⟩

abbrev nBuf : Space → Nat
  | .hbm => 26
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S2048x2048, .f32⟩
  | .hbm, ⟨6, _⟩ => ⟨S2048x32, .f32⟩
  | .hbm, ⟨7, _⟩ => ⟨S32, .f32⟩
  | .hbm, ⟨8, _⟩ => ⟨S16384x2048, .f32⟩
  | .hbm, ⟨9, _⟩ => ⟨S4x6x1x2048, .f32⟩
  | .hbm, ⟨10, _⟩ => ⟨S2048x2048, .bf16⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S2048x256, .bf16⟩
  | .hbm, ⟨19, _⟩ => ⟨S1x2048, .f32⟩
  | .hbm, ⟨20, _⟩ => ⟨S32x1, .f32⟩
  | .hbm, ⟨21, _⟩ => ⟨S16384x2048, .f32⟩
  | .hbm, ⟨22, _⟩ => ⟨S16384x2048, .f32⟩
  | .hbm, ⟨23, _⟩ => ⟨S64x8x256, .i32⟩
  | .hbm, ⟨24, _⟩ => ⟨S64x8x256, .f32⟩
  | .hbm, ⟨25, _⟩ => ⟨S32x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S2048x2048, .bf16⟩
  | .local _ .vmem, ⟨14, _⟩ => ⟨S2048x256, .bf16⟩
  | .local _ .vmem, ⟨15, _⟩ => ⟨S32x1, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S1x8x256, .i32⟩
  | .local _ .vmem, ⟨21, _⟩ => ⟨S1x8x256, .i32⟩
  | .local _ .vmem, ⟨22, _⟩ => ⟨S1x8x256, .f32⟩
  | .local _ .vmem, ⟨23, _⟩ => ⟨S1x8x256, .f32⟩
  | .local _ .vmem, ⟨24, _⟩ => ⟨S32x128, .f32⟩
  | .local _ .vmem, ⟨25, _⟩ => ⟨S32x1, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S16384x1024 : Shape := ⟨2, ![16384, 1024]⟩
abbrev S4x4096x2048 : Shape := ⟨3, ![4, 4096, 2048]⟩
abbrev S4x12288 : Shape := ⟨2, ![4, 12288]⟩
abbrev S2048 : Shape := ⟨1, ![2048]⟩
abbrev S2048x2048 : Shape := ⟨2, ![2048, 2048]⟩
abbrev S2048x32 : Shape := ⟨2, ![2048, 32]⟩
abbrev S32 : Shape := ⟨1, ![32]⟩
abbrev S4x4096x1024 : Shape := ⟨3, ![4, 4096, 1024]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x4096x2048, .f32⟩
  | .hbm, ⟨3, _⟩ => ⟨S4x12288, .f32⟩
  | .hbm, ⟨4, _⟩ => ⟨S2048, .f32⟩
  | .hbm, ⟨5, _⟩ => ⟨S2048x2048, .f32⟩
  | .hbm, ⟨6, _⟩ => ⟨S2048x32, .f32⟩
  | .hbm, ⟨7, _⟩ => ⟨S32, .f32⟩
  | .hbm, ⟨8, _⟩ => ⟨S16384x1024, .f32⟩
  | .hbm, ⟨9, _⟩ => ⟨S4x4096x1024, .f32⟩
  | .hbm, ⟨10, _⟩ => ⟨S16384x1024, .f32⟩
  | .hbm, ⟨11, _⟩ => ⟨S4x4096x1024, .f32⟩
  | .hbm, ⟨12, _⟩ => ⟨S4x1x12288, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S1x1x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x1x2048, .f32⟩
  | .hbm, ⟨42, _⟩ => ⟨S4x1x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S16384x2048, .f32⟩
  | .hbm, ⟨48, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel4.lean ====
abbrev S16384x4096 : Shape := ⟨2, ![16384, 4096]⟩
abbrev S16384x128 : Shape := ⟨2, ![16384, 128]⟩
abbrev S512 : Shape := ⟨1, ![512]⟩
abbrev S256 : Shape := ⟨1, ![256]⟩
abbrev S512x1024 : Shape := ⟨2, ![512, 1024]⟩
abbrev S256x8x128 : Shape := ⟨3, ![256, 8, 128]⟩
abbrev S512x512 : Shape := ⟨2, ![512, 512]⟩
abbrev S8x256x128 : Shape := ⟨3, ![8, 256, 128]⟩
abbrev S512x8x64 : Shape := ⟨3, ![512, 8, 64]⟩
abbrev S_ : Shape := ⟨0, ![]⟩
abbrev S512x8x128 : Shape := ⟨3, ![512, 8, 128]⟩
abbrev S1x512 : Shape := ⟨2, ![1, 512]⟩
abbrev S1x256 : Shape := ⟨2, ![1, 256]⟩
abbrev S4x32x256x1024 : Shape := ⟨4, ![4, 32, 256, 1024]⟩
abbrev S4x8x4096x128 : Shape := ⟨4, ![4, 8, 4096, 128]⟩
abbrev S16384x256 : Shape := ⟨2, ![16384, 256]⟩
abbrev S4x16x256x256 : Shape := ⟨4, ![4, 16, 256, 256]⟩
abbrev S256x512 : Shape := ⟨2, ![256, 512]⟩
abbrev S256x256 : Shape := ⟨2, ![256, 256]⟩
abbrev S256x128 : Shape := ⟨2, ![256, 128]⟩
abbrev S1x2x256x1024 : Shape := ⟨4, ![1, 2, 256, 1024]⟩
abbrev S1x8x256x128 : Shape := ⟨4, ![1, 8, 256, 128]⟩
abbrev S1x1x256x256 : Shape := ⟨4, ![1, 1, 256, 256]⟩
abbrev S256x1 : Shape := ⟨2, ![256, 1]⟩
abbrev S256x1024 : Shape := ⟨2, ![256, 1024]⟩
abbrev S1x256x128 : Shape := ⟨3, ![1, 256, 128]⟩
abbrev S1x1x256x128 : Shape := ⟨4, ![1, 1, 256, 128]⟩

abbrev nBuf : Space → Nat
  | .hbm => 23
  | .vmem => 21
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S512, .f32⟩
  | .hbm, ⟨3, _⟩ => ⟨S256, .f32⟩
  | .hbm, ⟨4, _⟩ => ⟨S512x1024, .f32⟩
  | .hbm, ⟨5, _⟩ => ⟨S256x8x128, .f32⟩
  | .hbm, ⟨6, _⟩ => ⟨S512x512, .f32⟩
  | .hbm, ⟨7, _⟩ => ⟨S8x256x128, .f32⟩
  | .hbm, ⟨8, _⟩ => ⟨S8x256x128, .bf16⟩
  | .hbm, ⟨9, _⟩ => ⟨S512x8x64, .f32⟩
  | .hbm, ⟨10, _⟩ => ⟨S_, .i32⟩
  | .hbm, ⟨11, _⟩ => ⟨S_, .f32⟩
  | .hbm, ⟨12, _⟩ => ⟨S512x8x128, .f32⟩
  | .hbm, ⟨13, _⟩ => ⟨S512x1024, .f32⟩
  | .hbm, ⟨14, _⟩ => ⟨S512x1024, .bf16⟩
  | .hbm, ⟨15, _⟩ => ⟨S1x512, .f32⟩
  | .hbm, ⟨16, _⟩ => ⟨S1x256, .f32⟩
  | .hbm, ⟨17, _⟩ => ⟨S512x1024, .bf16⟩
  | .hbm, ⟨18, _⟩ => ⟨S4x32x256x1024, .bf16⟩
  | .hbm, ⟨19, _⟩ => ⟨S4x8x4096x128, .bf16⟩
  | .hbm, ⟨20, _⟩ => ⟨S16384x256, .bf16⟩
  | .hbm, ⟨21, _⟩ => ⟨S4x16x256x256, .bf16⟩
  | .hbm, ⟨22, _⟩ => ⟨S16384x128, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x128, .f32⟩
  | .local _ .vmem, ⟨5, _⟩ => ⟨S256x128, .f32⟩
  | .local _ .vmem, ⟨6, _⟩ => ⟨S1x512, .f32⟩
  | .local _ .vmem, ⟨7, _⟩ => ⟨S1x256, .f32⟩
  | .local _ .vmem, ⟨8, _⟩ => ⟨S512x1024, .bf16⟩
  | .local _ .vmem, ⟨9, _⟩ => ⟨S8x256x128, .bf16⟩
  | .local _ .vmem, ⟨10, _⟩ => ⟨S512x1024, .bf16⟩
  | .local _ .vmem, ⟨11, _⟩ => ⟨S1x2x256x1024, .bf16⟩
  | .local _ .vmem, ⟨12, _⟩ => ⟨S1x2x256x1024, .bf16⟩
  | .local _ .vmem, ⟨13, _⟩ => ⟨S1x8x256x128, .bf16⟩
  | .local _ .vmem, ⟨14, _⟩ => ⟨S1x8x256x128, .bf16⟩
  | .local _ .vmem, ⟨15, _⟩ => ⟨S256x256, .bf16⟩
  | .local _ .vmem, ⟨16, _⟩ => ⟨S256x256, .bf16⟩
  | .local _ .vmem, ⟨17, _⟩ => ⟨S1x1x256x256, .bf16⟩
  | .local _ .vmem, ⟨18, _⟩ => ⟨S1x1x256x256, .bf16⟩
  | .local _ .vmem, ⟨19, _⟩ => ⟨S256x128, .bf16⟩
  | .local _ .vmem, ⟨20, _⟩ => ⟨S256x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x4096 : Shape := ⟨2, ![16384, 4096]⟩
abbrev S16384x128 : Shape := ⟨2, ![16384, 128]⟩
abbrev S512 : Shape := ⟨1, ![512]⟩
abbrev S256 : Shape := ⟨1, ![256]⟩
abbrev S512x1024 : Shape := ⟨2, ![512, 1024]⟩
abbrev S256x8x128 : Shape := ⟨3, ![256, 8, 128]⟩
abbrev S512x512 : Shape := ⟨2, ![512, 512]⟩
abbrev S4x4096x4096 : Shape := ⟨3, ![4, 4096, 4096]⟩
abbrev S4x4096x512 : Shape := ⟨3, ![4, 4096, 512]⟩
abbrev S4x4096x256 : Shape := ⟨3, ![4, 4096, 256]⟩
abbrev S4x4096x128 : Shape := ⟨3, ![4, 4096, 128]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x1x256 : Shape := ⟨3, ![1, 1, 256]⟩
abbrev S4x4096x1024 : Shape := ⟨3, ![4, 4096, 1024]⟩
abbrev S4x4096x8x128 : Shape := ⟨4, ![4, 4096, 8, 128]⟩
abbrev S8x256x4x4096 : Shape := ⟨4, ![8, 256, 4, 4096]⟩
abbrev S4x4096x8x256 : Shape := ⟨4, ![4, 4096, 8, 256]⟩
abbrev S4x4096x8x64 : Shape := ⟨4, ![4, 4096, 8, 64]⟩
abbrev S4x32x128x8x256 : Shape := ⟨5, ![4, 32, 128, 8, 256]⟩
abbrev S4x32x256x8x128 : Shape := ⟨5, ![4, 32, 256, 8, 128]⟩
abbrev S4x32x256x1024 : Shape := ⟨4, ![4, 32, 256, 1024]⟩
abbrev S4x8x4096x64 : Shape := ⟨4, ![4, 8, 4096, 64]⟩
abbrev S4x8x4096x128 : Shape := ⟨4, ![4, 8, 4096, 128]⟩
abbrev S4x16x256x256 : Shape := ⟨4, ![4, 16, 256, 256]⟩
abbrev S16384x64 : Shape := ⟨2, ![16384, 64]⟩
abbrev S16384x256 : Shape := ⟨2, ![16384, 256]⟩

abbrev nBuf : Space → Nat
  | .hbm => 73
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S512, .f32⟩
  | .hbm, ⟨3, _⟩ => ⟨S256, .f32⟩
  | .hbm, ⟨4, _⟩ => ⟨S512x1024, .f32⟩
  | .hbm, ⟨5, _⟩ => ⟨S256x8x128, .f32⟩
  | .hbm, ⟨6, _⟩ => ⟨S512x512, .f32⟩
  | .hbm, ⟨7, _⟩ => ⟨S16384x4096, .f32⟩
  | .hbm, ⟨8, _⟩ => ⟨S4x4096x4096, .f32⟩
  | .hbm, ⟨9, _⟩ => ⟨S4x4096x512, .f32⟩
  | .hbm, ⟨10, _⟩ => ⟨S4x4096x256, .f32⟩
  | .hbm, ⟨11, _⟩ => ⟨S4x4096x128, .f32⟩
  | .hbm, ⟨12, _⟩ => ⟨S4x4096x64, .f32⟩
  | .hbm, ⟨13, _⟩ => ⟨S4x4096x512, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x512, .f32⟩
  | .hbm, ⟨25, _⟩ => ⟨S4x4096x512, .f32⟩
  | .hbm, ⟨26, _⟩ => ⟨S1x1x512, .f32⟩
  | .hbm, ⟨27, _⟩ => ⟨S4x4096x512, .f32⟩
  | .hbm, ⟨28, _⟩ => ⟨S4x4096x512, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S1x1x256, .f32⟩
  | .hbm, ⟨43, _⟩ => ⟨S4x4096x256, .f32⟩
  | .hbm, ⟨44, _⟩ => ⟨S4x4096x256, .f32⟩
  | .hbm, ⟨45, _⟩ => ⟨S4x4096x1024, .f32⟩
  | .hbm, ⟨46, _⟩ => ⟨S4x4096x8x128, .f32⟩
  | .hbm, ⟨47, _⟩ => ⟨S8x256x4x4096, .f32⟩
  | .hbm, ⟨48, _⟩ => ⟨S4x4096x8x256, .f32⟩
  | .hbm, ⟨49, _⟩ => ⟨S4x4096x512, .f32⟩
  | .hbm, ⟨50, _⟩ => ⟨S4x4096x8x64, .f32⟩
  | .hbm, ⟨51, _⟩ => ⟨S_, .f32⟩
  | .hbm, ⟨52, _⟩ => ⟨S4x4096x8x256, .f32⟩
  | .hbm, ⟨53, _⟩ => ⟨S4x4096x8x256, .f32⟩
  | .hbm, ⟨54, _⟩ => ⟨S4x32x128x8x256, .f32⟩
  | .hbm, ⟨55, _⟩ => ⟨S4x32x256x8x128, .f32⟩
  | .hbm, ⟨56, _⟩ => ⟨S4x32x256x1024, .f32⟩
  | .hbm, ⟨57, _⟩ => ⟨S4x8x4096x64, .f32⟩
  | .hbm, ⟨58, _⟩ => ⟨S_, .i32⟩
  | .hbm, ⟨59, _⟩ => ⟨S_, .f32⟩
  | .hbm, ⟨60, _⟩ => ⟨S4x8x4096x128, .f32⟩
  | .hbm, ⟨61, _⟩ => ⟨S4x16x256x256, .f32⟩
  | .hbm, ⟨62, _⟩ => ⟨S4x16x256x256, .f32⟩
  | .hbm, ⟨63, _⟩ => ⟨S16384x64, .f32⟩
  | .hbm, ⟨64, _⟩ => ⟨S_, .i32⟩
  | .hbm, ⟨65, _⟩ => ⟨S_, .f32⟩
  | .hbm, ⟨66, _⟩ => ⟨S16384x128, .f32⟩
  | .hbm, ⟨67, _⟩ => ⟨S4x32x256x1024, .bf16⟩
  | .hbm, ⟨68, _⟩ => ⟨S4x8x4096x128, .bf16⟩
  | .hbm, ⟨69, _⟩ => ⟨S16384x256, .f32⟩
  | .hbm, ⟨70, _⟩ => ⟨S16384x256, .bf16⟩
  | .hbm, ⟨71, _⟩ => ⟨S4x16x256x256, .bf16⟩
  | .hbm, ⟨72, _⟩ => ⟨S16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_call1_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.Dispatch.Order.lean ====
/-
  The counting behind the dispatch. `N` assignments carry an expert each; assignment `j` goes to the place "how many
  assignments have a smaller expert, plus how many earlier ones have the same". These places are a bijection, and the
  stable sort of the assignments by expert lists them by place.
-/
module

public import Idealize.ShloMosaic.Lib.Routing.Count
public import Idealize.ShloMosaic.Lib.Routing.Ops
public import Idealize.ShloMosaic.Lib.Routing.OpsSearch
public import Idealize.ShloMosaic.Lib.SortFacts

@[expose] public section

namespace Cert.Dispatch

open Idealize.ShloMosaic

/-- Where assignment `j` goes: the number of assignments with a smaller expert, and of earlier ones with the same. -/
def place (N : Nat) (e : Nat → Nat) (j : Nat) : Nat :=
  Nat.count (fun i => e i < e j) N + Nat.count (fun i => e i = e j) j

/-- Assignment `j` is to come before assignment `k`: by expert, then by number. -/
def Before (e : Nat → Nat) (j k : Nat) : Prop := e j < e k ∨ (e j = e k ∧ j < k)

instance (e : Nat → Nat) (j k : Nat) : Decidable (Before e j k) := by unfold Before; infer_instance

/-- Counts over a longer range, and of an implied property, are no smaller. -/
theorem count_le_of_imp {P Q : Nat → Prop} [DecidablePred P] [DecidablePred Q] (n : Nat) (h : ∀ i, P i → Q i) :
    Nat.count P n ≤ Nat.count Q n := by
  induction n with
  | zero => simp
  | succ n ih =>
    rw [Nat.count_succ, Nat.count_succ]
    by_cases hp : P n
    · rw [if_pos hp, if_pos (h n hp)]; omega
    · rw [if_neg hp]; omega

/-- Smaller and equal, together: at most. -/
theorem count_lt_add_eq (e : Nat → Nat) (x N : Nat) :
    Nat.count (fun i => e i < x) N + Nat.count (fun i => e i = x) N = Nat.count (fun i => e i ≤ x) N := by
  induction N with
  | zero => simp
  | succ N ih =>
    rw [Nat.count_succ, Nat.count_succ, Nat.count_succ, ← ih]
    rcases Nat.lt_trichotomy (e N) x with h | h | h
    · rw [if_pos h, if_neg (by omega), if_pos (by omega)]; omega
    · rw [if_neg (by omega), if_pos h, if_pos (by omega)]; omega
    · rw [if_neg (by omega), if_neg (by omega), if_neg (by omega)]; omega

theorem place_lt_of_before (N : Nat) (e : Nat → Nat) {j k : Nat} (hj : j < N) (hk : k < N) (h : Before e j k) :
    place N e j < place N e k := by
  unfold place
  rcases h with h | ⟨h, hjk⟩
  · -- the same expert up to `j` and one more is within the whole range, and all of it is below `e k`
    have h1 : Nat.count (fun i => e i = e j) (j + 1) ≤ Nat.count (fun i => e i = e j) N := Nat.count_monotone _ hj
    rw [Nat.count_succ, if_pos rfl] at h1
    have h2 := count_lt_add_eq e (e j) N
    have h3 : Nat.count (fun i => e i ≤ e j) N ≤ Nat.count (fun i => e i < e k) N := count_le_of_imp N fun i hi => by omega
    omega
  · have h1 : Nat.count (fun i => e i = e j) (j + 1) ≤ Nat.count (fun i => e i = e j) k := Nat.count_monotone _ hjk
    rw [Nat.count_succ, if_pos rfl] at h1
    rw [← h]
    omega

theorem place_lt (N : Nat) (e : Nat → Nat) {j : Nat} (hj : j < N) : place N e j < N := by
  unfold place
  have h1 : Nat.count (fun i => e i = e j) (j + 1) ≤ Nat.count (fun i => e i = e j) N := Nat.count_monotone _ hj
  rw [Nat.count_succ, if_pos rfl] at h1
  have h2 := count_lt_add_eq e (e j) N
  have h3 : Nat.count (fun i => e i ≤ e j) N ≤ N := Nat.count_le _
  omega

theorem place_inj (N : Nat) (e : Nat → Nat) {j k : Nat} (hj : j < N) (hk : k < N) (h : place N e j = place N e k) : j = k := by
  by_contra hne
  have hb : Before e j k ∨ Before e k j := by unfold Before; omega
  rcases hb with hb | hb
  · have := place_lt_of_before N e hj hk hb; omega
  · have := place_lt_of_before N e hk hj hb; omega

/-- Over a list in increasing order, the stable sort by expert is the sort by expert and then number. -/
theorem stableSort_expert {N : Nat} (e : Nat → Nat) (l : List (Fin N)) (hl : l.Pairwise (· < ·)) :
    stableSort (fun a b : Fin N => decide (e a.val < e b.val)) l = stableSort (fun a b : Fin N => decide (Before e a.val b.val)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    have hab' : a.val < b.val := hab
    have : (e b.val < e a.val) ↔ Before e b.val a.val := by unfold Before; omega
    simp only [this]

/-- A strictly increasing self-map of `0 … N - 1` moves nothing. -/
theorem strictMono_val {N : Nat} (g : Fin N → Fin N) (hg : StrictMono g) (i : Fin N) : (g i).val = i.val := by
  have lo : ∀ n : Nat, ∀ i : Fin N, i.val = n → n ≤ (g i).val := by
    intro n
    induction n with
    | zero => intro i _; exact Nat.zero_le _
    | succ n ih =>
      intro i hi
      have h := ih ⟨n, by omega⟩ rfl
      have h' : (g ⟨n, by omega⟩).val < (g i).val := hg (show n < i.val by omega)
      omega
  have hi : ∀ d : Nat, ∀ i : Fin N, i.val + d + 1 = N → (g i).val + d + 1 ≤ N := by
    intro d
    induction d with
    | zero => intro i _; exact (g i).isLt
    | succ d ih =>
      intro i hi
      have h := ih ⟨i.val + 1, by omega⟩ (show i.val + 1 + d + 1 = N by omega)
      have h' : (g i).val < (g ⟨i.val + 1, by omega⟩).val := hg (show i.val < i.val + 1 by omega)
      omega
  have h1 := lo i.val i rfl
  have h2 := hi (N - 1 - i.val) i (by omega)
  omega

/-- The sorted positions' places are their own numbers. -/
theorem place_sorted {N : Nat} (e : Nat → Nat) (i : Fin N) :
    place N e (sortedFrom (fun a b : Fin N => decide (e a.val < e b.val)) i).val = i.val := by
  have hs : sortPositions N (fun a b : Fin N => decide (e a.val < e b.val)) = sortPositions N (fun a b : Fin N => decide (Before e a.val b.val)) := by
    unfold sortPositions
    exact stableSort_expert e _ (List.pairwise_lt_finRange N)
  have hf : sortedFrom (fun a b : Fin N => decide (e a.val < e b.val)) = sortedFrom (fun a b : Fin N => decide (Before e a.val b.val)) := by
    funext k
    unfold sortedFrom
    rw [List.get_of_eq hs]
    rfl
  rw [hf]
  let g : Fin N → Fin N := fun i => ⟨place N e (sortedFrom (fun a b : Fin N => decide (Before e a.val b.val)) i).val, place_lt N e (Fin.isLt _)⟩
  have hg : StrictMono g := by
    intro i j hij
    have hno₀ := sortedFrom_noInversion (fun a b : Fin N => decide (Before e a.val b.val)) (fun a b : Fin N => decide (Before e a.val b.val))
      (fun a b h => by simp only [decide_eq_true_eq, decide_eq_false_iff_not] at h ⊢; unfold Before at h ⊢; omega)
      (fun _ _ h => h)
      (fun a b c h₁ h₂ => by simp only [decide_eq_false_iff_not] at h₁ h₂ ⊢; unfold Before at h₁ h₂ ⊢; omega) i j hij
    have hno : ¬ Before e (sortedFrom (fun a b : Fin N => decide (Before e a.val b.val)) j).val (sortedFrom (fun a b : Fin N => decide (Before e a.val b.val)) i).val :=
      of_decide_eq_false hno₀
    clear hno₀
    have hne : sortedFrom (fun a b : Fin N => decide (Before e a.val b.val)) i ≠ sortedFrom (fun a b : Fin N => decide (Before e a.val b.val)) j :=
      fun h => absurd (sortedFrom_injective _ h) (ne_of_lt hij)
    have hne' : (sortedFrom (fun a b : Fin N => decide (Before e a.val b.val)) i).val ≠ (sortedFrom (fun a b : Fin N => decide (Before e a.val b.val)) j).val :=
      fun h => hne (Fin.ext h)
    have key : ∀ a b : Fin N, ¬ Before e b.val a.val → a.val ≠ b.val → place N e a.val < place N e b.val := fun a b h h' =>
      place_lt_of_before N e a.isLt b.isLt (by unfold Before at h ⊢; omega)
    exact key _ _ hno hne'
  exact strictMono_val g hg i

end Cert.Dispatch
-- ==== Proof.Dispatch.Given.lean ====
/-
  What the routing's precondition says, as numbers: every expert is one of 32, every rank is the number of earlier
  assignments of the same expert, and the counts, as whole numbers, are the number of assignments of each expert.
-/
module

public import proofs.«01_k».proof.Proof.Dispatch.Order
public import proofs.«01_k».proof.Proof.Gen.Pre_ranked
public import Idealize.ShloMosaic.Lib.ReduceAll
public import Idealize.ShloMosaic.Lib.Routing.BitFacts
public import Idealize.ShloMosaic.Lib.Pipeline.Value

@[expose] public section

noncomputable section

namespace Cert.Dispatch

open Idealize.ShloMosaic Idealize.ShloMosaic.Routing
open Idealize.ShloMosaic.ValueIdx (ix1 ix2 ix3 ix0)
open Cert.Pre_ranked Cert.Pre_ranked.Gen

variable {F : FTy → Type} [FloatOps F]

/-- Row `r` of the routing integers, one per token. -/
def rowOf (o : Fin 3 → Nat) (h : S64x8x256.Slices o S64x1x256) (ri : IVec S64x8x256 32) : IVec S16384 32 :=
  shapeCast S16384 (shapeCast S64x256 (extractStridedSlice S64x1x256 o ri h) facts.shapeCasts_S64x1x256_S64x256) facts.shapeCasts_S64x256_S16384

/-- Two numbers per token, interleaved. -/
def inter (a b : IVec S16384 32) : IVec S32768 32 :=
  shapeCast S32768 (concatenate S16384x2 1 [⟨S16384x1, broadcastInDim S16384x1 ![0] facts.bcast_S16384_S16384x1_0 a⟩,
    ⟨S16384x1, broadcastInDim S16384x1 ![0] facts.bcast_S16384_S16384x1_0 b⟩] facts.concatenates_S16384x1_S16384x1_S16384x2_d1) facts.shapeCasts_S16384x2_S32768

/-- Entry `k` of two interleaved vectors is entry `k / 2` of the one or the other. -/
theorem inter_apply (a b : IVec S16384 32) (k : Fin 32768) :
    inter a b (ix1 k) = if k.val % 2 = 0 then a (ix1 ⟨k.val / 2, by omega⟩) else b (ix1 ⟨k.val / 2, by omega⟩) := by
  have hk := k.isLt
  unfold inter
  refine (cast21 _ _ (⟨k.val / 2, by omega⟩ : Fin 16384) (⟨k.val % 2, by omega⟩ : Fin 2) k (by show k.val = k.val / 2 * 2 + k.val % 2; omega)).trans ?_
  split
  · next h0 =>
    refine (concatenate_pair_apply_left (t := S16384x2) (s₁ := S16384x1) (s₂ := S16384x1) (1 : Fin 2) _ _ facts.concatenates_S16384x1_S16384x1_S16384x2_d1 (ix2 (⟨k.val / 2, by omega⟩ : Fin 16384) (⟨k.val % 2, by omega⟩ : Fin 2)) rfl (ix2 (⟨k.val / 2, by omega⟩ : Fin 16384) (0 : Fin 1)) fun b => ?_).trans (bcCol _ a _)
    match b with
    | ⟨0, _⟩ => rfl
    | ⟨1, _⟩ => show 0 = k.val % 2; omega
  · next h0 =>
    refine (concatenate_pair_apply_right (t := S16384x2) (s₁ := S16384x1) (s₂ := S16384x1) (1 : Fin 2) _ _ facts.concatenates_S16384x1_S16384x1_S16384x2_d1 (ix2 (⟨k.val / 2, by omega⟩ : Fin 16384) (⟨k.val % 2, by omega⟩ : Fin 2)) rfl rfl (ix2 (⟨k.val / 2, by omega⟩ : Fin 16384) (0 : Fin 1)) (fun b hb => ?_) ?_).trans (bcCol _ b _)
    · match b, hb with
      | ⟨0, _⟩, _ => rfl
      | ⟨1, _⟩, hb => exact absurd rfl hb
    · show 0 + 1 = k.val % 2; omega

/-- The experts, and the ranks within an expert, an assignment each. -/
def experts (ri : IVec S64x8x256 32) : IVec S32768 32 :=
  inter (rowOf ![0, 0, 0] facts.slices_S64x8x256_S64x1x256_0_0_0 ri) (rowOf ![0, 1, 0] facts.slices_S64x8x256_S64x1x256_0_1_0 ri)
def ranks (ri : IVec S64x8x256 32) : IVec S32768 32 :=
  inter (rowOf ![0, 2, 0] facts.slices_S64x8x256_S64x1x256_0_2_0 ri) (rowOf ![0, 3, 0] facts.slices_S64x8x256_S64x1x256_0_3_0 ri)

/-- The counts, rounded to whole numbers. -/
def counts (cnt : FVec F S32x128 .f32) : IVec S32 32 :=
  fptosi 32 (shapeCast S32 (extractStridedSlice S32x1 ![0, 0] cnt facts.slices_S32x128_S32x1_0_0) facts.shapeCasts_S32x1_S32)

/-- The expert of assignment `k` as a number (0 past the last). -/
def expert (ri : IVec S64x8x256 32) (k : Nat) : Nat := if h : k < 32768 then (experts ri (ix1 ⟨k, h⟩)).toNat else 0

theorem expert_fin (ri : IVec S64x8x256 32) (k : Fin 32768) : expert ri k.val = (experts ri (ix1 k)).toNat := dif_pos k.isLt

/-- What the precondition says. -/
structure Ranked (ri : IVec S64x8x256 32) (cnt : FVec F S32x128 .f32) : Prop where
  lt : ∀ k : Fin 32768, expert ri k.val < 32
  rank : ∀ k : Fin 32768, ranks ri (ix1 k) = BitVec.ofNat 32 (Nat.count (fun q => expert ri q = expert ri k.val) k.val)
  count : ∀ x : Fin 32, counts cnt (ix1 x) = BitVec.ofNat 32 (Nat.count (fun q => expert ri q = x.val) 32768)

/-- Counting below `k` within a longer range. -/
theorem count_and_lt (P : Nat → Prop) [DecidablePred P] (k N : Nat) (h : k ≤ N) :
    Nat.count (fun q => P q ∧ q < k) N = Nat.count P k := by
  induction N with
  | zero => obtain rfl : k = 0 := by omega
            rfl
  | succ N ih =>
    rcases Nat.lt_or_ge N k with h' | h'
    · obtain rfl : k = N + 1 := by omega
      exact count_congr_of_lt (N + 1) fun i hi => ⟨fun h => h.1, fun h => ⟨h, hi⟩⟩
    · rw [Nat.count_succ, ih h', if_neg (by omega), Nat.add_zero]

theorem cmpi_eq_one {w : Nat} (a b : BitVec w) : IntOp.cmpi .eq a b = 1#1 ↔ a = b := by
  show BitVec.ofBool (a == b) = 1#1 ↔ _
  by_cases h : a = b
  · subst h; simp
  · have hb : (a == b) = false := by simpa using h
    rw [hb]
    exact ⟨fun e => absurd e (by decide), fun e => absurd e h⟩

theorem cmpi_slt_one {w : Nat} (a b : BitVec w) : IntOp.cmpi .slt a b = 1#1 ↔ a.toInt < b.toInt := by
  show BitVec.ofBool (a.slt b) = 1#1 ↔ _
  unfold BitVec.slt
  by_cases h : a.toInt < b.toInt <;> simp [h]

theorem cmpi_sge_one {w : Nat} (a b : BitVec w) : IntOp.cmpi .sge a b = 1#1 ↔ b.toInt ≤ a.toInt := by
  show BitVec.ofBool (b.sle a) = 1#1 ↔ _
  unfold BitVec.sle
  by_cases h : b.toInt ≤ a.toInt <;> simp [h]

/-- A word read signed between zero and 32 is a number below 32. -/
theorem toNat_lt_of_toInt (x : BitVec 32) (h0 : 0 ≤ x.toInt) (h1 : x.toInt < 32) : x.toNat < 32 := by
  have := toNat_lt_of_toInt_nonneg x h0
  rw [BitVec.toInt_eq_toNat_cond] at h1
  split_ifs at h1 <;> omega

theorem toInt_ofNat_small (k : Fin 32768) : (BitVec.ofNat 32 k.val).toInt = (k.val : Int) := by
  have := k.isLt
  rw [BitVec.toInt_eq_toNat_cond, BitVec.toNat_ofNat, Nat.mod_eq_of_lt (by omega), if_pos (by omega)]

theorem ranked_of (ri : IVec S64x8x256 32) (cnt : FVec F S32x128 .f32) (h2 : FVec F S16384x2048 .f32)
    (h : Cert.Pre_ranked.fn (F := F) ri cnt h2 = fun _ => 1#1) : Ranked ri cnt := by
  have hk : ∀ k : Fin 32768, Cert.Pre_ranked.fn (F := F) ri cnt h2 (ix1 k) = 1#1 := fun k => congrFun h _
  refine ⟨fun k => ?_, fun k => ?_, fun x => ?_⟩
  · obtain ⟨h1, hc⟩ := IntOp.andi_eq_one.1 (hk k)
    obtain ⟨h1, hr⟩ := IntOp.andi_eq_one.1 h1
    obtain ⟨hge, hlt⟩ := IntOp.andi_eq_one.1 h1
    have hge' : 0 ≤ (experts ri (ix1 k)).toInt := (cmpi_sge_one _ _).1 hge
    have hlt' : (experts ri (ix1 k)).toInt < 32 := (cmpi_slt_one _ _).1 hlt
    rw [expert_fin]
    exact toNat_lt_of_toInt _ hge' hlt'
  · obtain ⟨h1, hc⟩ := IntOp.andi_eq_one.1 (hk k)
    obtain ⟨h1, hr⟩ := IntOp.andi_eq_one.1 h1
    have hr' := (cmpi_eq_one _ _).1 hr
    refine hr'.symm.trans ?_
    rw [← count_and_lt (fun q => expert ri q = expert ri k.val) k.val 32768 (by omega)]
    refine reduce_count (n := 32768) (m := 32768) (by decide) _ _ _ _ k _ fun q => ?_
    constructor
    · intro h
      obtain ⟨ha, hb⟩ := IntOp.andi_eq_one.1 h
      have ha' : experts ri (ix1 k) = experts ri (ix1 q) := (bcRows _ _ _ k q).symm.trans (((cmpi_eq_one _ _).1 ha).trans (bcCols _ _ _ k q))
      have hb' := (cmpi_slt_one _ _).1 hb
      have e1 := bcCols facts.bcast_S32768_S1x32768_1 facts.bcast_S1x32768_S32768x32768_0_1 (iotaInDim S32768 32 0) k q
      have e2 := bcRows facts.bcast_S32768_S32768x1_0 facts.bcast_S32768x1_S32768x32768_0_1 (iotaInDim S32768 32 0) k q
      have hb'' : (BitVec.ofNat 32 q.val).toInt < (BitVec.ofNat 32 k.val).toInt := by
        have hq : (BitVec.ofNat 32 q.val) = iotaInDim S32768 32 0 (ix1 q) := rfl
        have hk' : (BitVec.ofNat 32 k.val) = iotaInDim S32768 32 0 (ix1 k) := rfl
        rw [hq, hk', ← e1, ← e2]
        exact hb'
      rw [toInt_ofNat_small, toInt_ofNat_small] at hb''
      rw [expert_fin, expert_fin, ha']
      exact ⟨rfl, by omega⟩
    · rintro ⟨ha, hb⟩
      rw [expert_fin, expert_fin] at ha
      have ha' := BitVec.eq_of_toNat_eq ha
      refine IntOp.andi_eq_one.2 ⟨(cmpi_eq_one _ _).2 ((bcRows _ _ _ k q).trans (ha'.symm.trans (bcCols _ _ _ k q).symm)), (cmpi_slt_one _ _).2 ?_⟩
      have e1 := bcCols facts.bcast_S32768_S1x32768_1 facts.bcast_S1x32768_S32768x32768_0_1 (iotaInDim S32768 32 0) k q
      have e2 := bcRows facts.bcast_S32768_S32768x1_0 facts.bcast_S32768x1_S32768x32768_0_1 (iotaInDim S32768 32 0) k q
      have hb'' : (iotaInDim S32768 32 0 (ix1 q)).toInt < (iotaInDim S32768 32 0 (ix1 k)).toInt := by
        show (BitVec.ofNat 32 q.val).toInt < (BitVec.ofNat 32 k.val).toInt
        rw [toInt_ofNat_small, toInt_ofNat_small]
        omega
      rw [← e1, ← e2] at hb''
      exact hb''
  · obtain ⟨h1, hc⟩ := IntOp.andi_eq_one.1 (hk 0)
    have hc' := (bc0 _ _ _).symm.trans hc
    have hx := Host.reduce_andi_all _ _ _ _ _ hc' (ix1 x)
    have hx' := (cmpi_eq_one _ _).1 hx
    refine hx'.symm.trans ?_
    refine reduce_count (n := 32) (m := 32768) (by decide) _ _ _ _ x _ fun q => ?_
    have hxv : iotaInDim S32 32 0 (ix1 x) = BitVec.ofNat 32 x.val := rfl
    have hxl := x.isLt
    refine (cmpi_eq_one _ _).trans ?_
    have e1 := bcCols facts.bcast_S32768_S1x32768_1 facts.bcast_S1x32768_S32x32768_0_1 (experts ri) x q
    have e2 := bcRows facts.bcast_S32_S32x1_0 facts.bcast_S32x1_S32x32768_0_1 (iotaInDim S32 32 0) x q
    rw [expert_fin]
    constructor
    · intro h
      have h' : experts ri (ix1 q) = BitVec.ofNat 32 x.val := e1.symm.trans (h.trans e2)
      rw [h', BitVec.toNat_ofNat]
      omega
    · intro h
      refine e1.trans (Eq.trans ?_ e2.symm)
      rw [hxv, ← h, BitVec.ofNat_toNat, BitVec.setWidth_eq]

end Cert.Dispatch
-- ==== Proof.Dispatch.Rows.lean ====
/-
  The dispatch kernel's rows. The result's row named by the table's word for assignment `k`, a row of the staged
  block, both as sets of elements; what one copy of a row leaves in the result; the words the kernel reads from the
  table; and the two splittings the body uses: the result into the rows of all assignments, the staged block into 512
  read rights, two per row.
-/
module

public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.ValueIdxCore
public import Idealize.ShloMosaic.Lib.Pipeline.FrameValue

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix1 ix2)
open Idealize.SL.BI.BIBase Idealize.SL.BI.Laws Idealize.SL.ProofMode Idealize.SL.Sem

variable {F : FTy → Type}

/-- The resource algebra of the kernel's own transfers. -/
local notation "𝕄" => MT nD τ sig Unit (Elt F) ℕ (Pipeline.UD sig nD τ) ℕ

/-- Contents of the table, and of the result. -/
abbrev Tab : Type := S32768.Idx → BitVec 32
abbrev Out (F : FTy → Type) : Type := S32768x2048.Idx → Elt F .f32
abbrev Blk (F : FTy → Type) : Type := S256x2048.Idx → Elt F .f32

/-- The table's word for assignment `k`. -/
abbrev word (T : Tab) (k : Fin 32768) : BitVec 32 := T (ix1 k)

/-- The elements of the result's row that assignment `k` goes to. -/
def rset (T : Tab) (k : Fin 32768) : Finset S32768x2048.Idx := Finset.univ.filter fun y => (y 0).val = (word T k).toNat

theorem mem_rset (T : Tab) (k : Fin 32768) (y : S32768x2048.Idx) : y ∈ rset T k ↔ (y 0).val = (word T k).toNat := by
  unfold rset; rw [Finset.mem_filter]; exact ⟨fun h => h.2, fun h => ⟨Finset.mem_univ _, h⟩⟩

/-- What is asked of the table: the 32768 words are the 32768 row numbers, each once. -/
structure Places (T : Tab) : Prop where
  lt : ∀ k, (word T k).toNat < 32768
  inj : ∀ k k', (word T k).toNat = (word T k').toNat → k = k'

namespace Places

variable {T : Tab} (hT : Places T)
include hT

theorem disj : ∀ k k', k ≠ k' → Disjoint (rset T k) (rset T k') := fun k k' h => by
  rw [Finset.disjoint_left]; intro y hy hy'; rw [mem_rset] at hy hy'; exact h (hT.inj k k' (by omega))

theorem surj (p : Fin 32768) : ∃ k, (word T k).toNat = p.val := by
  have hi : Function.Injective fun k : Fin 32768 => (⟨(word T k).toNat, hT.lt k⟩ : Fin 32768) :=
    fun a b h => hT.inj a b (Fin.mk.inj_iff.mp h)
  obtain ⟨k, hk⟩ := (Finite.injective_iff_surjective.mp hi) p
  exact ⟨k, congrArg Fin.val hk⟩

theorem cover : Finset.univ.biUnion (rset T) = Finset.univ := by
  ext y; simp only [Finset.mem_biUnion, Finset.mem_univ, true_and, iff_true]
  obtain ⟨k, hk⟩ := hT.surj (y 0); exact ⟨k, (mem_rset T k y).mpr hk.symm⟩

/-- The bounds the body assumes of a word it has read. -/
theorem chk (k : Fin 32768) : ∀ a, (![(word T k).toNat, 0] : Fin 2 → Nat) a + S1x2048.size a ≤ S32768x2048.size a := by
  have := hT.lt k; intro a; fin_cases a
  · show (word T k).toNat + 1 ≤ 32768; omega
  · show 0 + 2048 ≤ 2048; omega

end Places

/-! ## The memrefs -/

/-- The result's row `w`, as the body names it. -/
abbrev dM (w : BitVec 32) (h : ∀ a, (![w.toNat, 0] : Fin 2 → Nat) a + S1x2048.size a ≤ S32768x2048.size a) : Memref sig .tc .hbm S1x2048 .f32 :=
  (Memref.whole main_v37).slice (Rect.unit (s := S32768x2048) ![w.toNat, 0] S1x2048.size h) (fun _ => rfl)

theorem dM_set (T : Tab) (k : Fin 32768) (h) : (dM (word T k) h).view.set = rset T k := by
  refine (View.set_slice_whole _ _).trans ?_
  ext y; rw [Rect.mem_set_unit, mem_rset]
  have h1 : (y 1).val < 2048 := (y 1).isLt
  constructor
  · intro H
    have a0 : (word T k).toNat ≤ (y 0).val ∧ (y 0).val < (word T k).toNat + 1 := H 0
    omega
  · intro H a; fin_cases a
    · show (word T k).toNat ≤ (y 0).val ∧ (y 0).val < (word T k).toNat + 1; omega
    · show 0 ≤ (y 1).val ∧ (y 1).val < 0 + 2048; omega

theorem sinb (r : Fin 256) : ∀ a, (![r.val, 0] : Fin 2 → Nat) a + S1x2048.size a ≤ S256x2048.size a := by
  have := r.isLt; intro a; fin_cases a
  · show r.val + 1 ≤ 256; omega
  · show 0 + 2048 ≤ 2048; omega

/-- Row `r` of the staged block. -/
def sM (M : Memref sig .tc .vmem S256x2048 .f32) (r : Fin 256) : Memref sig .tc .vmem S1x2048 .f32 :=
  M.slice (Rect.unit (s := S256x2048) ![r.val, 0] S1x2048.size (sinb r)) (fun _ => rfl)

/-- Its elements, among the block's. -/
def sset (M : Memref sig .tc .vmem S256x2048 .f32) (r : Fin 256) : Finset M.view.ty.Idx := (sM M r).view.set

theorem sM_disj (M : Memref sig .tc .vmem S256x2048 .f32) : ∀ r r', r ≠ r' → Disjoint (sset M r) (sset M r') := fun r r' h => by
  refine View.disjoint_slice_of_sep M.view _ _ 0 rfl rfl ?_
  have : r.val ≠ r'.val := fun e => h (Fin.ext e)
  show r.val + 1 ≤ r'.val ∨ r'.val + 1 ≤ r.val
  omega

theorem sM_cover (M : Memref sig .tc .vmem S256x2048 .f32) : Finset.univ.biUnion (sset M) = M.view.set := by
  ext y; rw [Finset.mem_biUnion]; constructor
  · rintro ⟨r, -, hr⟩; exact View.set_slice_subset M.view _ hr
  · intro hy
    obtain ⟨x, -, rfl⟩ := Finset.mem_map.mp hy
    refine ⟨x 0, Finset.mem_univ _, ?_⟩
    show _ ∈ (M.view.slice _).set
    rw [View.set_slice]
    refine Finset.mem_map_of_mem _ (Rect.mem_set_unit.mpr fun a => ?_)
    fin_cases a
    · show (x 0).val ≤ (x 0).val ∧ (x 0).val < (x 0).val + 1; omega
    · have h1 : (x 1).val < 2048 := (x 1).isLt
      show 0 ≤ (x 1).val ∧ (x 1).val < 0 + 2048; omega

/-- One row's credit on the semaphore. -/
def NN : ℕ := RefSig.tileCredit S1x2048 .f32

theorem NN_pos : 0 < NN := by unfold NN; decide
theorem dM_amount (w : BitVec 32) (h) : (dM w h).view.amount (.dma cc0_scratch0.sem) = NN := by unfold NN; rfl
theorem dM_credit (w : BitVec 32) (h) : (dM w h).view.dmaCredit = NN := by unfold NN; rfl

/-! ## What one copy leaves -/

/-- The result's contents, `G`, hold row `r` of the block at the row assignment `k` goes to. -/
abbrev Lands (T : Tab) (G : Out F) (x : Blk F) (k : Fin 32768) (r : Fin 256) : Prop :=
  ∀ y : S32768x2048.Idx, (y 0).val = (word T k).toNat → G y = x (ix2 r (y 1))

theorem landed (c : Dev nD) (T : Tab) (G : Out F) (M : Memref sig .tc .vmem S256x2048 .f32) (k : Fin 32768) (r : Fin 256)
    (h : ∀ a, (![(word T k).toNat, 0] : Fin 2 → Nat) a + S1x2048.size a ≤ S32768x2048.size a)
    (fs : Buf (Elt F) (M.view.loc (c : Thread nD τ))) (fd : Out F) (hG : Lands T G (M.view.read (Elt F) fs) k r)
    (y : S32768x2048.Idx) (hy : y ∈ rset T k) :
    (dM (word T k) h).view.write (Elt F) fd (ReadAs.same.apply ((sM M r).view.read (Elt F) fs)) Finset.univ y = G y := by
  rw [mem_rset] at hy
  rw [hG y hy]
  have e : y = (dM (word T k) h).view.emb (ix2 (0 : Fin 1) (y 1)) := by
    funext a; apply Fin.ext; fin_cases a
    · show (y 0).val = (word T k).toNat + 1 * 0; omega
    · show (y 1).val = 0 + 1 * (y 1).val; omega
  conv_lhs => rw [e]
  rw [View.write_emb_of_mem _ _ (Finset.mem_univ _)]
  show M.view.read (Elt F) fs _ = _
  congr 1
  funext a; apply Fin.ext; fin_cases a
  · show r.val + 1 * 0 = r.val; omega
  · show 0 + 1 * (y 1).val = (y 1).val; omega

/-! ## The words read -/

theorem load_word (T : Tab) (k : Fin 32768) (o : Fin 1 → Nat) (ho : o = ![k.val]) (h : ∀ a, o a + S1.size a ≤ S32768.size a) (x : S1.Idx) :
    ((Memref.whole main_v36 : Memref sig .tc .smem S32768 .i32).access (Rect.unit (s := S32768) o S1.size h)).read (Elt F) T x = word T k := by
  subst ho
  show T _ = T _
  congr 1
  funext a; apply Fin.ext; fin_cases a
  have : (x 0).val < 1 := (x 0).isLt
  show k.val + 1 * (x 0).val = k.val; omega

end Cert.Dispatch

end
-- ==== Proof.Dispatch.Body.lean ====
/-
  One grid point of the dispatch kernel. It starts 512 copies on one semaphore — assignment `512 n + j` carries row
  `j / 2` of the staged block to the result's row its word names — and then waits 512 times. The copies are one batch:
  the last wait hands every copied row back, holding the row it was sent.
-/
module

public import proofs.«01_k».proof.Proof.Dispatch.Rows
public import Idealize.ShloMosaic.Lib.Tactic
public import Idealize.ShloMosaic.Lib.Scf

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix1 ix2)
open Idealize.SL.BI.BIBase Idealize.SL.BI.Laws Idealize.SL.ProofMode Idealize.SL.Sem
open Idealize.ShloMosaic.Tactic

variable {F : FTy → Type}

local notation "𝕄" => MT nD τ sig Unit (Elt F) ℕ (Pipeline.UD sig nD τ) ℕ

/-- The kernel calls nothing that recurs. -/
abbrev 𝒱₀ : Variants := Variants.none

section Names

variable (c : Dev nD) (T : Tab) (G : Out F) (M : Memref sig .tc .vmem S256x2048 .f32)
  (fs : Buf (Elt F) (M.view.loc (c : Thread nD τ))) (n : Fin 64)

/-- The assignment of copy `j` at point `n`. -/
def asg (j : Fin 512) : Fin 32768 := ⟨512 * n.val + j.val, by have := n.isLt; have := j.isLt; omega⟩

/-- The block's row that copy `j` reads. -/
def srow (j : Fin 512) : Fin 256 := ⟨j.val / 2, by have := j.isLt; omega⟩

/-- The two read rights of a row of the block. -/
def half (b : ℕ) : PosShare TreeShare := if b = 0 then Transfers.shareDrop fullShare 1 else Transfers.shareTokN fullShare 0

/-- The result's row of assignment `k`, at contents `g`. -/
def rowAt (k : Fin 32768) (g : Out F) : sProp 𝕄 :=
  (Memref.whole main_v37 : Memref sig .tc .hbm S32768x2048 .f32).view.loc (c : Thread nD τ) ↦[rset T k]{fullShare} g

/-- The read right of copy `j` on its row of the block. -/
def srcAt (j : Fin 512) : sProp 𝕄 :=
  M.view.loc (c : Thread nD τ) ↦[sset M (srow j)]{half (j.val % 2)} fs

/-- What copy `j` delivers. -/
def delivery (j : Fin 512) : sProp 𝕄 := iprop(rowAt c T (asg n j) G ∗ srcAt c M fs j)

instance delivery_storable (j : Fin 512) : BI.Storable (upEmb : UEmb _ 𝕄) (delivery c T G M fs n j) := by
  unfold delivery rowAt srcAt; infer_instance

/-- The batch at `j` copies started and `u` units waited for. -/
def batch (j u : ℕ) : sProp 𝕄 :=
  Transfers.Batch (countersEmb (U := Pipeline.UD sig nD τ)) (c : Thread nD τ) (.dma cc0_scratch0.sem) () NN (delivery c T G M fs n) j u

/-- The table held to be read. -/
def tabAt (q : PosShare TreeShare) : sProp 𝕄 :=
  (Memref.whole main_v36 : Memref sig .tc .smem S32768 .i32).view.loc (c : Thread nD τ) ↦{q} T

end Names

variable [∀ e, Nonempty (Elt F e)]
variable (c : Dev nD) (T : Tab) (G : Out F) (M : Memref sig .tc .vmem S256x2048 .f32) (hM : M.IsWhole)
  (fs : Buf (Elt F) (M.view.loc (c : Thread nD τ))) (n : Fin 64) (q : PosShare TreeShare) (f0 : Out F)

/-- One word read, its row's bounds assumed, one copy started. -/
def issueOne (o : Fin 1 → Nat) (hin : ∀ a, o a + S1.size a ≤ S32768.size a)
    (chk : BitVec 32 → Prop) (dec : ∀ v, Decidable (chk v)) (od : BitVec 32 → Fin 2 → Nat)
    (hd : ∀ v, chk v → ∀ a, od v a + S1x2048.size a ≤ S32768x2048.size a)
    (os : Fin 2 → Nat) (hs : ∀ a, os a + S1x2048.size a ≤ S256x2048.size a) :
    Prog (TpuEff nD τ sig (Elt F) Λ₀ .tc) PUnit := do
  let v7 : Elt F .i32 ← smemLoad (Memref.whole main_v36 : Memref sig .tc .smem S32768 .i32) (Rect.unit (s := S32768) o S1.size hin) numel1_S1 rfl
  have hw : chk v7 := (← Prog.lift (TpuEff.assume (chk v7) (dec v7))).down
  let v8 : Memref sig .tc .hbm S1x2048 .f32 := (Memref.whole main_v37 : Memref sig .tc .hbm S32768x2048 .f32).slice (Rect.unit (s := S32768x2048) (od v7) S1x2048.size (hd v7 hw)) (fun _ => rfl)
  let v9 : Memref sig .tc .vmem S1x2048 .f32 := M.slice (Rect.unit (s := S256x2048) os S1x2048.size hs) (fun _ => rfl)
  Prog.lift (.enqueueDma v9 (.here v8) (.dma cc0_scratch0.sem) (View.wordExact_bits rfl) (View.wordExact_bits rfl) ⟨Or.inl rfl, trivial⟩)

theorem issue_one (hT : Places T) (j : Fin 512)
    (hG : Lands T G (M.view.read (Elt F) fs) (asg n j) (srow j))
    (o : Fin 1 → Nat) (ho : o = ![(asg n j).val]) (hin : ∀ a, o a + S1.size a ≤ S32768.size a)
    (chk : BitVec 32 → Prop) (dec : ∀ v, Decidable (chk v)) (od : BitVec 32 → Fin 2 → Nat) (hod : od = fun v => ![v.toNat, 0])
    (hchk : ∀ v, chk v = ∀ a, od v a + S1x2048.size a ≤ S32768x2048.size a)
    (hd : ∀ v, chk v → ∀ a, od v a + S1x2048.size a ≤ S32768x2048.size a)
    (os : Fin 2 → Nat) (r : Fin 256) (hr : srow j = r) (hos : os = ![r.val, 0]) (hs : ∀ a, os a + S1x2048.size a ≤ S256x2048.size a)
    (K : PUnit → Prog (TpuEff nD τ sig (Elt F) Λ₀ .tc) Unit) (Q : Unit → sProp 𝕄) :
    iprop(tabAt c T q ∗ batch c T G M fs n j.val 0 ∗ rowAt c T (asg n j) f0 ∗ srcAt c M fs j)
      ⊢ iprop((iprop(tabAt c T q ∗ batch c T G M fs n (j.val + 1) 0) -∗ wp frame (wpE defs₀ 𝒱₀ (c : Thread nD τ) none) Set.univ (K ⟨⟩) Q)
        -∗ wp frame (wpE defs₀ 𝒱₀ (c : Thread nD τ) none) Set.univ (issueOne (F := F) M o hin chk dec od hd os hs >>= K) Q) := by
  subst hod hos
  iintro ⟨HT, HB, HD, HS⟩ HK
  have hc : chk (word T (asg n j)) := by rw [hchk]; exact hT.chk (asg n j)
  unfold issueOne
  unfold tabAt
  sl_exec
  rw [show issue_one.sl.r T o hin = word T (asg n j) from load_word T (asg n j) o ho hin _]
  iapply (wp_assume 𝒱₀ (c : Thread nD τ) none Set.univ hc)
  unfold batch rowAt srcAt
  rw [hr]
  iapply (Transfers.wp_dmaBatch (Q := Q) (defs := defs₀ (F := F)) (countersEmb (U := Pipeline.UD sig nD τ)) 𝒱₀ (c : Thread nD τ) none
    (sm := .dma cc0_scratch0.sem) (D := delivery c T G M fs n) (j := j.val) (u := 0)
    (src := sM M r) (dst := dM (word T (asg n j)) (hT.chk _)) (via := ReadAs.same)
    (q := half (j.val % 2)) (fs := fs) (Sd := rset T (asg n j)) (fd := f0) () NN (dM_amount _ _)
    (Finset.subset_of_eq (dM_set T (asg n j) _)) j.isLt (Nat.zero_le _) (by
      unfold delivery rowAt srcAt
      rw [hr]
      iintro ⟨HD, HS⟩
      isplitl [HD]
      · iapply (Entails.of_eq (pointsTo_congr (landed c T G M (asg n j) r (hT.chk _) fs f0 (hr ▸ hG)))) $$ HD
      iexact HS)) $$ [HS HD HB]
  · isplitl [HS]; · iexact HS
    isplitl [HD]; · iexact HD
    iexact HB
  iintro HB
  iapply HK
  isplitl [HT]; · iexact HT
  iexact HB

/-- Before trip `k` of the first loop: `2 k` copies started, the rows and read rights of the others still in hand. -/
def issueAt (k : ℕ) (_ : Unit) : sProp 𝕄 :=
  iprop(tabAt c T q ∗ batch c T G M fs n (2 * k) 0 ∗ bigSep (Ring.rangeSet 512 (2 * k) 512) fun j => iprop(rowAt c T (asg n j) f0 ∗ srcAt c M fs j))

theorem trips1 : k0_t1_loop.trips = 256 := by decide
theorem trips2 : k0_t2_loop.trips = 256 := by decide

theorem issue_step (hT : Places T) (i : grid0.Coords) (hi : (i 0).val = n.val)
    (hG : ∀ j, Lands T G (M.view.read (Elt F) fs) (asg n j) (srow j)) (k : Fin k0_t1_loop.trips) (acc : Unit) :
    issueAt c T G M fs n q f0 k.val acc ⊢ wp frame (wpE defs₀ 𝒱₀ (c : Thread nD τ) none) Set.univ
      (k0_t1_body (F := F) i (Memref.whole main_v36) (Memref.isWhole_whole _) M hM (Memref.whole main_v37) (Memref.isWhole_whole _) cc0_scratch0 k acc)
      (issueAt c T G M fs n q f0 (k.val + 1)) := by
  have hk : k.val < 256 := lt_of_lt_of_eq k.isLt trips1
  unfold issueAt
  rw [Ring.bigSep_rangeSet_head (NB := 512) (lo := 2 * k.val) (by omega) (by omega),
    Ring.bigSep_rangeSet_head (NB := 512) (lo := 2 * k.val + 1) (by omega) (by omega),
    show 2 * (k.val + 1) = 2 * k.val + 1 + 1 by omega]
  iintro ⟨HT, HB, ⟨HD0, HS0⟩, ⟨HD1, HS1⟩, HR⟩
  iapply (issue_one c T G M fs n q f0 hT ⟨2 * k.val, by omega⟩ (hG _) (k0_off1 i k)
    ((k0_off1_eq i k).trans (by rw [hi]; rfl)) (k0_off1_inb i k) k0_chk1 k0_chk1.dec k0_off2 rfl (fun _ => rfl) k0_off2_inb
    (k0_off3 k) ⟨k.val, hk⟩ (Fin.ext (by show 2 * k.val / 2 = k.val; omega)) (k0_off3_eq k) (k0_off3_inb k) _ _) $$ [HT HB HD0 HS0]
  · isplitl [HT]; · iexact HT
    isplitl [HB]; · iexact HB
    isplitl [HD0]; · iexact HD0
    iexact HS0
  iintro ⟨HT, HB⟩
  iapply (issue_one c T G M fs n q f0 hT ⟨2 * k.val + 1, by omega⟩ (hG _) (k0_off4 i k)
    ((k0_off4_eq i k).trans (by rw [hi]; rfl)) (k0_off4_inb i k) k0_chk2 k0_chk2.dec k0_off5 rfl (fun _ => rfl) k0_off5_inb
    (k0_off6 k) ⟨k.val, hk⟩ (Fin.ext (by show (2 * k.val + 1) / 2 = k.val; omega)) (k0_off6_eq k) (k0_off6_inb k) _ _) $$ [HT HB HD1 HS1]
  · isplitl [HT]; · iexact HT
    isplitl [HB]; · iexact HB
    isplitl [HD1]; · iexact HD1
    iexact HS1
  iintro ⟨HT, HB⟩
  sl_step
  isplitl [HT]; · iexact HT
  isplitl [HB]; · iexact HB
  iexact HR

/-- One word read, its row's bounds assumed, one wait of a row's size. -/
def waitOne (o : Fin 1 → Nat) (hin : ∀ a, o a + S1.size a ≤ S32768.size a)
    (chk : BitVec 32 → Prop) (dec : ∀ v, Decidable (chk v)) (od : BitVec 32 → Fin 2 → Nat)
    (hd : ∀ v, chk v → ∀ a, od v a + S1x2048.size a ≤ S32768x2048.size a)
    (os : Fin 2 → Nat) (hs : ∀ a, os a + S1x2048.size a ≤ S256x2048.size a) :
    Prog (TpuEff nD τ sig (Elt F) Λ₀ .tc) PUnit := do
  let v7 : Elt F .i32 ← smemLoad (Memref.whole main_v36 : Memref sig .tc .smem S32768 .i32) (Rect.unit (s := S32768) o S1.size hin) numel1_S1 rfl
  have hw : chk v7 := (← Prog.lift (TpuEff.assume (chk v7) (dec v7))).down
  let v8 : Memref sig .tc .hbm S1x2048 .f32 := (Memref.whole main_v37 : Memref sig .tc .hbm S32768x2048 .f32).slice (Rect.unit (s := S32768x2048) (od v7) S1x2048.size (hd v7 hw)) (fun _ => rfl)
  let v9 : Memref sig .tc .vmem S1x2048 .f32 := M.slice (Rect.unit (s := S256x2048) os S1x2048.size hs) (fun _ => rfl)
  Prog.lift (.waitDma2 cc0_scratch0.sem v9 v8 (View.wordExact_bits rfl) (View.wordExact_bits rfl))

/-- The batch all started, with `w` of its 512 rows waited for; at the last, every delivery and the semaphore at zero. -/
def waited (w : ℕ) : sProp 𝕄 :=
  if w < 512 then batch c T G M fs n 512 (w * NN)
  else iprop(semVal ((c : Thread nD τ), SemLoc.dma cc0_scratch0.sem) 0 ∗ bigSep Finset.univ (delivery c T G M fs n))

theorem wait_one (hT : Places T) (k : Fin 32768) (w : ℕ) (hw : w < 512)
    (o : Fin 1 → Nat) (ho : o = ![k.val]) (hin : ∀ a, o a + S1.size a ≤ S32768.size a)
    (chk : BitVec 32 → Prop) (dec : ∀ v, Decidable (chk v)) (od : BitVec 32 → Fin 2 → Nat) (hod : od = fun v => ![v.toNat, 0])
    (hchk : ∀ v, chk v = ∀ a, od v a + S1x2048.size a ≤ S32768x2048.size a)
    (hd : ∀ v, chk v → ∀ a, od v a + S1x2048.size a ≤ S32768x2048.size a)
    (os : Fin 2 → Nat) (r : Fin 256) (hos : os = ![r.val, 0]) (hs : ∀ a, os a + S1x2048.size a ≤ S256x2048.size a)
    (K : PUnit → Prog (TpuEff nD τ sig (Elt F) Λ₀ .tc) Unit) (Q : Unit → sProp 𝕄) :
    iprop(tabAt c T q ∗ waited c T G M fs n w ∗ (∃ W, owes (c : Thread nD τ) 0 W))
      ⊢ iprop((iprop(tabAt c T q ∗ waited c T G M fs n (w + 1) ∗ (∃ W, owes (c : Thread nD τ) 0 W)) -∗ wp frame (wpE defs₀ 𝒱₀ (c : Thread nD τ) none) Set.univ (K ⟨⟩) Q)
        -∗ wp frame (wpE defs₀ 𝒱₀ (c : Thread nD τ) none) Set.univ (waitOne (F := F) M o hin chk dec od hd os hs >>= K) Q) := by
  subst hod hos
  have hc : chk (word T k) := by rw [hchk]; exact hT.chk k
  have e1 : (w + 1) * NN = w * NN + NN := Nat.succ_mul w NN
  have ew : waited c T G M fs n w = batch c T G M fs n 512 (w * NN) := if_pos hw
  rw [ew]
  rcases Nat.lt_or_ge (w + 1) 512 with h | h
  · have ew' : waited c T G M fs n (w + 1) = batch c T G M fs n 512 ((w + 1) * NN) := if_pos h
    rw [ew']
    unfold waitOne tabAt
    iintro ⟨HT, HB, ⟨%W, HO⟩⟩ HK
    sl_exec
    rw [show wait_one.sl.r T o hin = word T k from load_word T k o ho hin _]
    iapply (wp_assume 𝒱₀ (c : Thread nD τ) none Set.univ hc)
    unfold batch
    iapply (Transfers.wp_waitBatch (Q := Q) (defs := defs₀ (F := F)) (countersEmb (U := Pipeline.UD sig nD τ)) 𝒱₀ (c : Thread nD τ) none
      (sem := cc0_scratch0.sem) (D := delivery c T G M fs n) (u := w * NN) (W := W)
      (srcw := sM M r) (dstw := dM (word T k) (hT.chk _)) () (dM_credit _ _) (by
        have := Nat.mul_lt_mul_of_pos_right h NN_pos; rw [e1] at this; rw [Nat.mul_comm NN 512]; exact this)) $$ [HB HO]
    · isplitl [HB]; · iexact HB
      iexact HO
    iintro ⟨HB, HO⟩
    iapply HK
    isplitl [HT]; · iexact HT
    isplitl [HB]; · rw [e1]; iexact HB
    iexists _; iexact HO
  · have ew' : waited c T G M fs n (w + 1)
        = iprop(semVal ((c : Thread nD τ), SemLoc.dma cc0_scratch0.sem) 0 ∗ bigSep Finset.univ (delivery c T G M fs n)) := if_neg (Nat.not_lt.mpr h)
    rw [ew']
    unfold waitOne tabAt
    iintro ⟨HT, HB, ⟨%W, HO⟩⟩ HK
    sl_exec
    rw [show wait_one.sl.r_1 T o hin = word T k from load_word T k o ho hin _]
    iapply (wp_assume 𝒱₀ (c : Thread nD τ) none Set.univ hc)
    unfold batch
    iapply (Transfers.wp_waitBatchLast (Q := Q) (defs := defs₀ (F := F)) (countersEmb (U := Pipeline.UD sig nD τ)) 𝒱₀ (c : Thread nD τ) none
      (sem := cc0_scratch0.sem) (D := delivery c T G M fs n) (u := w * NN) (W := W)
      (srcw := sM M r) (dstw := dM (word T k) (hT.chk _)) () (dM_credit _ _) NN_pos (by
        rw [← e1, show w + 1 = 512 by omega, Nat.mul_comm])) $$ [HB HO]
    · isplitl [HB]; · iexact HB
      iexact HO
    iintro ⟨HB, HC, HO⟩
    iapply HK
    isplitl [HT]; · iexact HT
    isplitl [HB HC]
    · isplitl [HC]; · iexact HC
      iexact HB
    iexists _; iexact HO

/-- Before trip `k` of the second loop. -/
def drainAt (k : ℕ) (_ : Unit) : sProp 𝕄 :=
  iprop(tabAt c T q ∗ waited c T G M fs n (2 * k) ∗ (∃ W, owes (c : Thread nD τ) 0 W))

theorem drain_step (hT : Places T) (i : grid0.Coords) (hi : (i 0).val = n.val) (k : Fin k0_t2_loop.trips) (acc : Unit) :
    drainAt c T G M fs n q k.val acc ⊢ wp frame (wpE defs₀ 𝒱₀ (c : Thread nD τ) none) Set.univ
      (k0_t2_body (F := F) i (Memref.whole main_v36) (Memref.isWhole_whole _) M hM (Memref.whole main_v37) (Memref.isWhole_whole _) cc0_scratch0 k acc)
      (drainAt c T G M fs n q (k.val + 1)) := by
  have hk : k.val < 256 := lt_of_lt_of_eq k.isLt trips2
  unfold drainAt
  rw [show 2 * (k.val + 1) = 2 * k.val + 1 + 1 by omega]
  iintro H
  iapply (wait_one c T G M fs n q hT (asg n ⟨2 * k.val, by omega⟩) (2 * k.val) (by omega) (k0_off7 i k)
    ((k0_off7_eq i k).trans (by rw [hi]; rfl)) (k0_off7_inb i k) k0_chk3 k0_chk3.dec k0_off8 rfl (fun _ => rfl) k0_off8_inb
    (k0_off9 k) ⟨k.val, hk⟩ (k0_off9_eq k) (k0_off9_inb k) _ _) $$ H
  iintro H
  iapply (wait_one c T G M fs n q hT (asg n ⟨2 * k.val + 1, by omega⟩) (2 * k.val + 1) (by omega) (k0_off10 i k)
    ((k0_off10_eq i k).trans (by rw [hi]; rfl)) (k0_off10_inb i k) k0_chk4 k0_chk4.dec k0_off11 rfl (fun _ => rfl) k0_off11_inb
    (k0_off12 k) ⟨k.val, hk⟩ (k0_off12_eq k) (k0_off12_inb k) _ _) $$ H
  iintro H
  sl_step
  iexact H

/-- The point's run: the 512 rows in hand at some contents, the read rights, the table, the semaphore at zero, in; the
    rows at `G`, the rest as it was, out. -/
theorem point (hT : Places T) (i : grid0.Coords) (hi : (i 0).val = n.val)
    (hG : ∀ j, Lands T G (M.view.read (Elt F) fs) (asg n j) (srow j)) (Q : PUnit → sProp 𝕄) :
    iprop(tabAt c T q ∗ semVal ((c : Thread nD τ), SemLoc.dma cc0_scratch0.sem) 0
        ∗ (bigSep Finset.univ fun j => iprop(rowAt c T (asg n j) f0 ∗ srcAt c M fs j)) ∗ (∃ W, owes (c : Thread nD τ) 0 W))
      ⊢ iprop((iprop(tabAt c T q ∗ semVal ((c : Thread nD τ), SemLoc.dma cc0_scratch0.sem) 0
        ∗ bigSep Finset.univ (delivery c T G M fs n) ∗ (∃ W, owes (c : Thread nD τ) 0 W)) -∗ Q ⟨⟩)
      -∗ wp frame (wpE defs₀ 𝒱₀ (c : Thread nD τ) none) Set.univ
        (cc0_moe_dispatch_skel (F := F) i (Memref.whole main_v36) (Memref.isWhole_whole _) M hM (Memref.whole main_v37) (Memref.isWhole_whole _) cc0_scratch0) Q) := by
  iintro ⟨HT, HC, HR, HO⟩ HK
  imod (Transfers.batch_alloc' (Lvl := ℕ) (countersEmb (U := Pipeline.UD sig nD τ)) (c : Thread nD τ) () NN (delivery c T G M fs n)
    (sm := .dma cc0_scratch0.sem) (E := Set.univ)) $$ HC with HB
  unfold cc0_moe_dispatch_skel
  sl_for (issueAt c T G M fs n q f0) $$ [HT HB HR]
  · intro k acc; exact issue_step c T G M hM fs n q f0 hT i hi hG k acc
  · unfold issueAt batch
    isplitl [HT]; · iexact HT
    isplitl [HB]; · iexact HB
    rw [show 2 * 0 = 0 from rfl, Ring.rangeSet_univ]; iexact HR
  iintro %acc HI
  rw [show Scf.trips k0_t1_loop.lb k0_t1_loop.ub k0_t1_loop.st = 256 from trips1]
  unfold issueAt
  icases HI with ⟨HT, HB, -⟩
  sl_for (drainAt c T G M fs n q) $$ [HT HB HO]
  · intro k acc; exact drain_step c T G M hM fs n q hT i hi k acc
  · unfold drainAt
    isplitl [HT]; · iexact HT
    isplitl [HB]
    · rw [show waited c T G M fs n (2 * 0) = batch c T G M fs n 512 (0 * NN) from if_pos (by decide), Nat.zero_mul]
      iexact HB
    iexact HO
  iintro %acc HI
  rw [show Scf.trips k0_t2_loop.lb k0_t2_loop.ub k0_t2_loop.st = 256 from trips2]
  unfold drainAt
  rw [show waited c T G M fs n (2 * 256) = iprop(semVal ((c : Thread nD τ), SemLoc.dma cc0_scratch0.sem) 0 ∗ bigSep Finset.univ (delivery c T G M fs n)) from if_neg (by decide)]
  icases HI with ⟨HT, ⟨HC, HD⟩, HO⟩
  sl_step
  iapply HK
  isplitl [HT]; · iexact HT
  isplitl [HC]; · iexact HC
  isplitl [HD]; · iexact HD
  iexact HO

end Cert.Dispatch

end
-- ==== Proof.Dispatch.Split.lean ====
/-
  The splittings one grid point opens and closes with: the staged block into the 512 read rights of its rows, the
  point's run of assignments out of all of them, the result into the rows of all assignments.
-/
module

public import proofs.«01_k».proof.Proof.Dispatch.Body

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig Unit (Elt F) ℕ (Pipeline.UD sig nD τ) ℕ

/-- 512 things are 256 even ones and 256 odd ones. -/
theorem bigSep_pairs {Mo : Type} [URA Mo] (D : Fin 512 → sProp Mo) :
    bigSep Finset.univ D = iprop((bigSep Finset.univ fun r : Fin 256 => D ⟨2 * r.val, by omega⟩)
      ∗ (bigSep Finset.univ fun r : Fin 256 => D ⟨2 * r.val + 1, by omega⟩)) := by
  have e : bigSep Finset.univ D = bigSep (Finset.range (2 * 256)) fun t => if h : t < 512 then D ⟨t, h⟩ else BI.emp :=
    Ring.bigSep_fin_eq_range 512 D _ fun t h => dif_pos h
  rw [e, Ring.bigSep_range_deinterleave 256]
  rw [Ring.bigSep_fin_eq_range 256 (fun r : Fin 256 => D ⟨2 * r.val, by omega⟩) (fun t => if h : 2 * t < 512 then D ⟨2 * t, h⟩ else BI.emp)
      fun t h => dif_pos (by omega),
    Ring.bigSep_fin_eq_range 256 (fun r : Fin 256 => D ⟨2 * r.val + 1, by omega⟩) (fun t => if h : 2 * t + 1 < 512 then D ⟨2 * t + 1, h⟩ else BI.emp)
      fun t h => dif_pos (by omega)]

/-- Assignments `512 n … 512 n + 511` are the point's. -/
theorem bigSep_run {Mo : Type} [URA Mo] (n : Fin 64) (D : Fin 32768 → sProp Mo) :
    bigSep (Ring.rangeSet 32768 (512 * n.val) (512 * n.val + 512)) D = bigSep Finset.univ fun j => D (asg n j) := by
  have hn := n.isLt
  have h1 : bigSep (Ring.rangeSet 32768 (512 * n.val) (512 * n.val + 512)) D
      = bigSep (Finset.range (512 * n.val + 512 - 512 * n.val)) fun t => if h : 512 * n.val + t < 32768 then D ⟨512 * n.val + t, h⟩ else BI.emp :=
    Ring.bigSep_rangeSet_eq_range (by omega) _ fun k h => dif_pos h
  rw [h1, Nat.add_sub_cancel_left]
  exact (Ring.bigSep_fin_eq_range 512 _ _ fun t h => dif_pos (by omega)).symm

/-- The staged block at a share is its rows at that share. -/
theorem block_rows (c : Dev nD) (M : Memref sig .tc .vmem S256x2048 .f32) (fs : Buf (Elt F) (M.view.loc (c : Thread nD τ)))
    (q : PosShare TreeShare) : (M.view.loc (c : Thread nD τ) ↦[M.view.set]{q} fs : sProp 𝕄)
      = bigSep Finset.univ fun r : Fin 256 => M.view.loc (c : Thread nD τ) ↦[sset M r]{q} fs := by
  have hd : ∀ b ∈ (Finset.univ : Finset (Fin 256)), ∀ b' ∈ (Finset.univ : Finset (Fin 256)), b ≠ b' → Disjoint (sset M b) (sset M b') :=
    fun b _ b' _ h => sM_disj M b b' h
  have h := pointsTo_biUnion (Ix := Unit) (Name := ℕ) (U := Pipeline.UD sig nD τ) (Lvl := ℕ) (ℓ := M.view.loc (c : Thread nD τ)) (q := q)
    (f := fs) (Finset.univ : Finset (Fin 256)) (sset M) hd
  revert h
  generalize hS : Finset.biUnion (Finset.univ : Finset (Fin 256)) (sset M) = S
  intro h
  have hS' : S = M.view.set := by
    rw [← hS]; ext y; rw [← sM_cover M, Finset.mem_biUnion]
  rw [hS'] at h
  exact h

/-- The staged block is the read rights of its rows, two to a row. -/
theorem src_split (c : Dev nD) (M : Memref sig .tc .vmem S256x2048 .f32) (fs : Buf (Elt F) (M.view.loc (c : Thread nD τ))) :
    (M.view.loc (c : Thread nD τ) ↦[M.view.set]{fullShare} fs : sProp 𝕄) ⊣⊢ bigSep Finset.univ (srcAt c M fs) := by
  have e0 (r : Fin 256) (h : 2 * r.val < 512) : (srcAt c M fs ⟨2 * r.val, h⟩ : sProp 𝕄)
      = (M.view.loc (c : Thread nD τ) ↦[sset M r]{Transfers.shareDrop fullShare 1} fs : sProp 𝕄) := by
    unfold srcAt
    rw [show srow ⟨2 * r.val, h⟩ = r from Fin.ext (by show 2 * r.val / 2 = r.val; omega),
      show half (2 * r.val % 2) = Transfers.shareDrop fullShare 1 from if_pos (by omega)]
  have e1 (r : Fin 256) (h : 2 * r.val + 1 < 512) : (srcAt c M fs ⟨2 * r.val + 1, h⟩ : sProp 𝕄)
      = (M.view.loc (c : Thread nD τ) ↦[sset M r]{Transfers.shareTokN fullShare 0} fs : sProp 𝕄) := by
    unfold srcAt
    rw [show srow ⟨2 * r.val + 1, h⟩ = r from Fin.ext (by show (2 * r.val + 1) / 2 = r.val; omega),
      show half ((2 * r.val + 1) % 2) = Transfers.shareTokN fullShare 0 from if_neg (by omega)]
  rw [bigSep_pairs]
  simp only [e0, e1]
  rw [← block_rows, ← block_rows]
  have h2 := Transfers.pointsTo_toks_range (Ix := Unit) (Val := Elt F) (Name := ℕ) (U := Pipeline.UD sig nD τ) (Lvl := ℕ)
    (ℓ := M.view.loc (c : Thread nD τ)) (S := M.view.set) (f := fs) fullShare 1
  rw [Finset.range_one, bigSep_singleton] at h2
  exact h2

/-- The result is the rows of all assignments. -/
theorem out_split (c : Dev nD) (T : Tab) (hT : Places T) (g : Out F) :
    ((Memref.whole main_v37 : Memref sig .tc .hbm S32768x2048 .f32).view.loc (c : Thread nD τ) ↦{fullShare} g : sProp 𝕄)
      = bigSep Finset.univ fun k => rowAt c T k g := by
  have h := pointsTo_biUnion (Ix := Unit) (Name := ℕ) (U := Pipeline.UD sig nD τ) (Lvl := ℕ)
    (ℓ := (Memref.whole main_v37 : Memref sig .tc .hbm S32768x2048 .f32).view.loc (c : Thread nD τ)) (q := fullShare)
    (f := g) (Finset.univ : Finset (Fin 32768)) (rset T) (fun b _ b' _ h => hT.disj b b' h)
  revert h
  generalize hS : Finset.biUnion (Finset.univ : Finset (Fin 32768)) (rset T) = S
  intro h
  have hS' : S = Finset.univ := by
    rw [← hS]; ext y; rw [← hT.cover, Finset.mem_biUnion]
  rw [hS'] at h
  exact h

end Cert.Dispatch

end
-- ==== Proof.Dispatch.Run.lean ====
/-
  The dispatch kernel's run. Before point `n` the rows of the assignments below `512 n` hold what they are to hold and
  the others what the launch found; each point carries its own run of 512 rows over. At the end the result holds, in the
  row assignment `k` goes to, row `k / 2` of the activations.
-/
module

public import proofs.«01_k».proof.Proof.Dispatch.Split
public import Idealize.ShloMosaic.Lib.Pipeline.FrameBody
public import Idealize.ShloMosaic.Lib.Pipeline.FrameValue

@[expose] public section

noncomputable section

namespace Cert.Dispatch

open Cert.KernelIdeal Cert.KernelIdeal.Gen
open Idealize.ShloMosaic Idealize.ShloMosaic.TcCoe
open Idealize.SL Idealize.SL.RA Idealize.SL.BI
open scoped Idealize.SL.BI
open Idealize.ShloMosaic.ValueIdx (ix1 ix2)
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The host operations before the kernel, and what they leave. -/
abbrev hostOps : List (List (HloOp τ sig (Elt F))) := [hostOps0, hostOps0_1, hostOps0_2]

def V (c : Dev nD) (b : Ref sig .tc) : Buf (Elt F) ((c.tc : Thread nD τ).loc b) :=
  StableHlo.after hostOps.flatten (fun b => m (c, b)) b

/-- The one core. -/
abbrev core : Dev nD := 0

theorem core_eq (c : Dev nD) : c = core := by apply Fin.ext; have := c.isLt; show c.val = 0; change c.val < 1 at this; omega

/-- The table of places, the activations and the result's first contents, as the kernel finds them. -/
def tab : Tab := V m core main_v36
def act (c : Dev nD) : S16384x2048.Idx → Elt F .f32 := V m c main_arg2
def old (c : Dev nD) : Out F := V m c main_v37

/-- What the result is to hold. -/
abbrev Placed (G : Dev nD → Out F) : Prop :=
  ∀ (c : Dev nD) (k : Fin 32768) (y : S32768x2048.Idx), (y 0).val = (word (tab m) k).toNat →
    G c y = act m c (ix2 (⟨k.val / 2, by omega⟩ : Fin 16384) (y 1))

/-- The table's contents as the launch pins them. -/
def pins (p : Fin 1) : (pcfgs (F := F) p).Adm := ⟨fun | 0 => tab m | ⟨_ + 1, h⟩ => absurd h (Nat.not_lt.2 (Nat.le_add_left _ _)), trivial⟩

variable (G : Dev nD → Out F)

/-- Between the points: the semaphore at zero, the table, the rows done and the rows to do. -/
def between (c : Dev nD) (n : ℕ) : sProp 𝕄 :=
  iprop((∃ r, prngReg c r) ∗ semVal ((c : Thread nD τ), SemLoc.dma cc0_scratch0.sem) 0 ∗ tabAt c (tab m) fullShare.right
    ∗ (bigSep (Ring.rangeSet 32768 0 (512 * n)) fun k => rowAt c (tab m) k (G c))
    ∗ (bigSep (Ring.rangeSet 32768 (512 * n) 32768) fun k => rowAt c (tab m) k (old m c)))

abbrev kcfg : Cfg sig Λ₀ := cfg0 (pins m 0)

/-- The proof's data: the staged block is left as it was found. -/
def dats (p : Fin 1) (c : Dev nD) : Dat τ (Elt F) Unit ℕ (Pipeline.UD sig nD τ) ℕ (Pipeline.pin (pcfgs (F := F)) (pins m) p) c where
  A w := V m c (Pipeline.arrRef spec0 w)
  after w t := ((kcfg m).win w).blk t |>.view.read (Elt F) (V m c (Pipeline.arrRef spec0 w))
  Φ t := between m G c t.val
  q _ := fullShare
  owed _ := 0

theorem A_eq (c : Dev nD) (w : Fin (kcfg m).W) : (dats m G 0 c).A w = V m c (Pipeline.arrRef spec0 w) := by
  dsimp only [dats]

/-- The staging buffer of a point. -/
abbrev stg (t : Fin (kcfg m).N) : Memref sig .tc .vmem S256x2048 .f32 := spec0_0.stage ((kcfg m).slots t 0)

/-- The body at a point. -/
def bodyAt (t : Fin (kcfg m).N) : Prog (TpuEff nD τ sig (Elt F) Λ₀ .tc) PUnit :=
  cc0_moe_dispatch (grid0.coords t) (Memref.whole main_v36) (Memref.isWhole_whole _) (stg m t) (hstage0_0 (((kcfg m).slots t 0).cast nbuf0_0)) (Memref.whole main_v37) (Memref.isWhole_whole _) cc0_scratch0

theorem defs₀_row (t : Fin (kcfg m).N) :
    defs₀ (F := F) .tc (kcfg m).body ((kcfg m).bodyArgs t ((kcfg m).slots t)) = bodyAt m t := by
  unfold defs₀ bodyAt; rw [Defs.onTc_tc]

/-- The block of a point: 256 rows of the activations. -/
def blockAt (c : Dev nD) (t : Fin (kcfg m).N) : Blk F := (dats m G 0 c).after 0 t

theorem before_eq (c : Dev nD) (t : Fin (kcfg m).N) (d) : (dats m G 0 c).before 0 t d = blockAt m G c t := by
  refine ((dats m G 0 c).before_in_eq_fetched 0 rfl (fun _ => rfl) (fun _ _ _ => rfl) (fun _ => rfl) t d).trans ?_
  rfl

theorem coords_val : ∀ t : Fin grid0.N, (grid0.coords t 0).val = t.val := by decide

theorem block_row (c : Dev nD) (t : Fin (kcfg m).N) (r : Fin 256) (col : Fin 2048) :
    blockAt m G c t (ix2 r col) = act m c (ix2 (⟨256 * t.val + r.val, by have h : t.val < 64 := lt_of_lt_of_eq t.isLt N_0; omega⟩ : Fin 16384) col) := by
  have h : t.val < 64 := lt_of_lt_of_eq t.isLt N_0
  have hc := coords_val t
  show act m c _ = act m c _
  congr 1
  funext a; apply Fin.ext; fin_cases a
  · show (BitVec.ofNat 32 (grid0.coords t 0).val).toNat * 256 + 1 * r.val = 256 * t.val + r.val
    rw [hc, BitVec.toNat_ofNat, Nat.mod_eq_of_lt (by omega)]; omega
  · show 0 * 2048 + 1 * col.val = col.val; omega

/-! ## One point -/

def bodyPre (c : Dev nD) (t : Fin (kcfg m).N) : sProp 𝕄 :=
  iprop((dats m G 0 c).Φ t.castSucc ∗ (dats m G 0 c).owesAt () t.castSucc
    ∗ (∃ d, owns (c : Thread nD τ) (stg m t) fullShare ((dats m G 0 c).before 0 t d)))
def bodyPost (c : Dev nD) (t : Fin (kcfg m).N) : sProp 𝕄 :=
  iprop((dats m G 0 c).Φ t.succ ∗ (dats m G 0 c).owesAt () t.succ
    ∗ owns (c : Thread nD τ) (stg m t) fullShare ((dats m G 0 c).after 0 t))

/-- Before a point, its own rows stand apart from the rows done and the rows still to do; -/
theorem between_open (c : Dev nD) (n : Fin 64) : between m G c n.val = iprop((∃ r, prngReg c r)
    ∗ semVal ((c : Thread nD τ), SemLoc.dma cc0_scratch0.sem) 0 ∗ tabAt c (tab m) fullShare.right
    ∗ (bigSep (Ring.rangeSet 32768 0 (512 * n.val)) fun k => rowAt c (tab m) k (G c))
    ∗ (bigSep Finset.univ fun j => rowAt c (tab m) (asg n j) (old m c))
    ∗ (bigSep (Ring.rangeSet 32768 (512 * n.val + 512) 32768) fun k => rowAt c (tab m) k (old m c))) := by
  have hn := n.isLt
  unfold between
  rw [Ring.bigSep_rangeSet_split (a := 512 * n.val) (b := 512 * n.val + 512) (d := 32768) (by omega) (by omega), bigSep_run]

/-- after it they are among the rows done. -/
theorem between_close (c : Dev nD) (n : Fin 64) : between m G c (n.val + 1) = iprop((∃ r, prngReg c r)
    ∗ semVal ((c : Thread nD τ), SemLoc.dma cc0_scratch0.sem) 0 ∗ tabAt c (tab m) fullShare.right
    ∗ ((bigSep (Ring.rangeSet 32768 0 (512 * n.val)) fun k => rowAt c (tab m) k (G c))
      ∗ (bigSep Finset.univ fun j => rowAt c (tab m) (asg n j) (G c)))
    ∗ (bigSep (Ring.rangeSet 32768 (512 * n.val + 512) 32768) fun k => rowAt c (tab m) k (old m c))) := by
  have hn := n.isLt
  unfold between
  rw [show 512 * (n.val + 1) = 512 * n.val + 512 by omega,
    Ring.bigSep_rangeSet_split (a := 0) (b := 512 * n.val) (d := 512 * n.val + 512) (by omega) (by omega), bigSep_run]

theorem sound_body (hT : Places (tab m)) (hG : Placed m G) (c : Dev nD) (t : Fin (kcfg m).N) :
    bodyPre m G c t ⊢ wp frame (wpE (defs₀ (F := F)) Variants.none c none) Set.univ (bodyAt m t) (fun _ => bodyPost m G c t) := by
  have ht : t.val < 64 := lt_of_lt_of_eq t.isLt N_0
  unfold bodyPre bodyPost bodyAt
  rw [show (dats m G 0 c).Φ t.castSucc = between m G c (⟨t.val, ht⟩ : Fin 64).val from rfl,
    show (dats m G 0 c).Φ t.succ = between m G c ((⟨t.val, ht⟩ : Fin 64).val + 1) from rfl, between_open, between_close]
  unfold Dat.owesAt Pipeline.owesWithin
  rw [show (dats m G 0 c).owed t.castSucc = 0 from rfl, show (dats m G 0 c).owed t.succ = 0 from rfl]
  simp only [before_eq]
  rw [show (dats m G 0 c).after 0 t = blockAt m G c t from rfl]
  unfold owns
  rw [cc0_moe_dispatch_eq_skeleton]
  iintro ⟨⟨Hg, Hs, HT, HD, HR, HL⟩, ⟨%W, -, HW⟩, ⟨%d0, %fs, %hfs, H0⟩⟩
  have hL : ∀ j, Lands (tab m) (G c) ((stg m t).view.read (Elt F) fs) (asg ⟨t.val, ht⟩ j) (srow j) := by
    intro j y hy
    rw [hG c _ y hy, hfs]
    refine Eq.trans ?_ (block_row m G c t (srow j) (y 1)).symm
    congr 2
    apply Fin.ext
    show (512 * t.val + j.val) / 2 = 256 * t.val + j.val / 2
    omega
  iapply (point c (tab m) (G c) (stg m t) (hstage0_0 _) fs ⟨t.val, ht⟩ fullShare.right (old m c) hT (grid0.coords t) (coords_val t) hL _) $$ [HT Hs HR H0 HW]
  · isplitl [HT]; · iexact HT
    isplitl [Hs]; · iexact Hs
    isplitl [HR H0]
    · iapply (Entails.of_eq (bigSep_sep' _ _ _).symm)
      isplitl [HR]; · iexact HR
      iapply (src_split c (stg m t) fs).1
      iexact H0
    iexists W; iexact HW
  iintro ⟨HT, Hs, HR, ⟨%W', HW'⟩⟩
  unfold delivery
  ihave HR' := (Entails.of_eq (bigSep_sep' _ _ _)) $$ HR
  icases HR' with ⟨HR, H0⟩
  isplitl [Hg HT Hs HR HD HL]
  · isplitl [Hg]; · iexact Hg
    isplitl [Hs]; · iexact Hs
    isplitl [HT]; · iexact HT
    isplitl [HD HR]
    · isplitl [HD]; · iexact HD
      iexact HR
    iexact HL
  isplitl [HW']
  · iexists W'; isplitr; · ipureintro; exact fun _ _ => Or.inl trivial
    iexact HW'
  iexists fs; isplitr
  · ipureintro; exact hfs
  iapply (src_split c (stg m t) fs).2
  iexact H0

theorem body_obligation (hT : Places (tab m)) (hG : Placed m G) (c : Dev nD) :
    BodyObligation (dats (F := F) m G 0 c) (defs₀ (F := F)) Variants.none () Set.univ := fun t => by
  rw [bigSep_W0, bigSep_W0, defs₀_row]
  exact Idealize.ShloMosaic.triple_restated (sound_body m G hT hG c t) rfl .rfl fun _ => .rfl

/-! ## The launch -/

/-- The kernel's own semaphore; the buffer it writes itself. -/
abbrev osem : Fin 1 → SemLoc sig := fun _ => .dma cc0_scratch0.sem
abbrev R0 : Finset (Ref sig .tc) := {main_v37}
theorem ownFacts : Pipeline.OwnSemFacts spec0 osem := by decide
theorem R0_sub : R0 ⊆ Pipeline.restRefsP sig pre0 spec0 \ ∅ := by decide

theorem ownSems_eq (c : Dev nD) :
    Pipeline.ownSems0 (Ix := Unit) (Name := ℕ) (U := Pipeline.UD sig nD τ) (Lvl := ℕ) (Val := Elt F) (τ := τ) osem c
      = (semVal ((c : Thread nD τ), SemLoc.dma cc0_scratch0.sem) 0 : sProp 𝕄) :=
  Pipeline.ownSems0_eq_of_list c osem [0] (by decide) (by decide)

/-- What the buffers hold when the kernel has ended: the result `G`, the others as the kernel found them. -/
def ends (c : Dev nD) (b : Ref sig .tc) : Buf (Elt F) ((c.tc : Thread nD τ).loc b) :=
  Function.update (V m c) main_v37 (G c) b

theorem ends_out (c : Dev nD) : ends m G c main_v37 = G c := Function.update_self ..

theorem routed_eq (c : Dev nD) (W : (b : Ref sig .tc) → Buf (Elt F) ((c.tc : Thread nD τ).loc b)) :
    (Pipeline.routed R0 c W : sProp 𝕄)
      = ((Memref.whole main_v37 : Memref sig .tc .hbm S32768x2048 .f32).view.loc (c : Thread nD τ) ↦{fullShare} W main_v37 : sProp 𝕄) := by
  unfold Pipeline.routed; exact bigSep_singleton

theorem held_eq (c : Dev nD) : (Pipeline.ΦT pre0 (pins m 0).1 c : sProp 𝕄) = tabAt c (tab m) fullShare.right := by
  unfold Pipeline.ΦT Pipeline.prefHeld; exact bigSep_singleton

theorem enter (hT : Places (tab m)) (c : Dev nD) :
    iprop(Pipeline.ΦDRG osem spec0 ∅ R0 (V m) (V m) c ∗ Pipeline.ΦT pre0 (pins m 0).1 c) ⊢ between m G c 0 := by
  unfold between
  rw [Pipeline.ΦDRG_eq, ownSems_eq, routed_eq, held_eq, show V m c main_v37 = old m c from rfl, out_split c (tab m) hT,
    Ring.bigSep_rangeSet_empty (by omega), Nat.mul_zero, Ring.rangeSet_univ]
  iintro ⟨⟨-, Hg, Hs, -, HR⟩, HT⟩
  isplitl [Hg]; · iexact Hg
  isplitl [Hs]; · iexact Hs
  isplitl [HT]; · iexact HT
  isplitr
  · iempintro
  iexact HR

theorem leave (hT : Places (tab m)) (c : Dev nD) :
    between m G c 64 ⊢ Pipeline.ΦDRG osem spec0 ∅ R0 (V m) (ends m G) c := by
  unfold between
  rw [Pipeline.ΦDRG_eq, ownSems_eq, routed_eq, scopedRest0_eq, ends_out, out_split c (tab m) hT, bigSep_empty,
    show 512 * 64 = 32768 from rfl, Ring.rangeSet_univ]
  iintro ⟨Hg, Hs, -, HR, -⟩
  isplitr; · iempintro
  isplitl [Hg]; · iexact Hg
  isplitl [Hs]; · iexact Hs
  isplitr; · iempintro
  iexact HR

theorem fresh0 : (hostOps0 : List (HloOp τ sig (Elt F))).Forall fun op => op.fresh = ∅ := by
  repeat' apply And.intro
  all_goals rfl
theorem fresh0_1 : (hostOps0_1 : List (HloOp τ sig (Elt F))).Forall fun op => op.fresh = ∅ := by
  repeat' apply And.intro
  all_goals rfl
theorem fresh0_2 : (hostOps0_2 : List (HloOp τ sig (Elt F))).Forall fun op => op.fresh = ∅ := by
  repeat' apply And.intro
  all_goals rfl

set_option backward.isDefEq.respectTransparency.types false in
theorem hmain : Pipeline.HMainP (Ix := Unit) (Name := ℕ) (U := Pipeline.UD sig nD τ) (Lvl := ℕ) (pcfgs (F := F)) 0 defs₀ Variants.none m main (V m) :=
  Pipeline.hmainP_prefixes pcfgs 0 defs₀ Variants.none m main hostOps
    ⟨hostOps0_sub, hostOps0_1_sub, hostOps0_2_sub⟩
    ⟨fresh0, fresh0_1, fresh0_2⟩ main_chain

set_option backward.isDefEq.respectTransparency.types false in
theorem run_main (hT : Places (tab m)) (hG : Placed m G) :
    θ_run defs (onTc (τ := τ) (main (F := F))) ⟨m, fun _ => 0, ρ⟩
      (fun r => Pipeline.FramePostRG (Pipeline.pin pcfgs (pins m)) (dats m G) 0 R0 (V m) (ends m G) r ∧ r.2.sem = fun _ => 0) :=
  Pipeline.θ_run_frameP_dmaRG (Q' := _) pcfgs (pins m) (dats m G) (0 : Fin 1) launch0 osem defs₀ Variants.none ownFacts ∅ R0
    (Finset.empty_subset _) R0_sub m ρ main
    (hbody := fun c => (body_obligation m G hT hG c).loose) (hshare := fun c => (dats m G 0 c).share_full fun _ => rfl)
    (howed := fun _ _ => rfl) (V := V m) (hmain := hmain m) (hA := A_eq m G)
    (hpf := fun c k => by rw [core_eq c]; fin_cases k; rfl) (G := ends m G)
    (hin := enter m G hT) (hout := leave m G hT)

end Cert.Dispatch

end
-- ==== Proof.Dispatch.Table.lean ====
/-
  The table of places, as the host computes it: assignment `k` goes to the first place of its expert (a running sum of
  the counts) plus its rank in it. Under the precondition that is the place `Dispatch/Order.lean` counts.
-/
module

public import proofs.«01_k».proof.Proof.Dispatch.Given
public import proofs.«01_k».proof.Proof.Dispatch.Run
public import Idealize.ShloMosaic.Lib.StableHlo.RunRead

@[expose] public section

noncomputable section

namespace Cert.Dispatch

open Idealize.ShloMosaic Idealize.ShloMosaic.TcCoe Idealize.ShloMosaic.Routing
open Idealize.ShloMosaic.ValueIdx (ix1 ix2 ix3 ix0)
open Cert.KernelIdeal Cert.KernelIdeal.Gen

variable {F : FTy → Type} [FloatOps F] [∀ e, Nonempty (Elt F e)]

/-- The first place of each expert. -/
def starts (cnt : FVec F S32x128 .f32) : IVec S32 32 :=
  subi (Host.reduceWindow IntOp.addi ![32] ![1] ![31] ![0] (counts cnt) (broadcastInDim S_ ![] facts.bcast_S_S_ (constantI S_ 32 0#32))
    facts.reduceWindows_S32_S32_w32s1p31_0 facts.h_S_) (counts cnt)

/-- A vector of indices with 32 added to those below zero. -/
def wrapped (e : IVec S16384 32) : IVec S16384 32 :=
  select (cmpi .slt e (broadcastInDim S16384 ![] facts.bcast_S_S16384 (constantI S_ 32 0#32)))
    (addi e (broadcastInDim S16384 ![] facts.bcast_S_S16384 (constantI S_ 32 32#32))) e

/-- The places of one row of assignments: the expert's first place and the rank. -/
def placesRow (s : IVec S32 32) (e r : IVec S16384 32) : IVec S16384 32 :=
  addi (Host.gather gather_S32_S16384x1_S16384_n_0_n_n_0_1_1 s (broadcastInDim S16384x1 ![0] facts.bcast_S16384_S16384x1_0 (wrapped e))) r

/-- The table's term. -/
def tabTerm (ri : IVec S64x8x256 32) (s : IVec S32 32) : IVec S32768 32 :=
  inter (placesRow s (rowOf ![0, 0, 0] facts.slices_S64x8x256_S64x1x256_0_0_0 ri) (rowOf ![0, 2, 0] facts.slices_S64x8x256_S64x1x256_0_2_0 ri))
    (placesRow s (rowOf ![0, 1, 0] facts.slices_S64x8x256_S64x1x256_0_1_0 ri) (rowOf ![0, 3, 0] facts.slices_S64x8x256_S64x1x256_0_3_0 ri))

variable (m : (ℓ : Loc nD τ sig) → Buf (Elt F) ℓ)

/-- What the host holds once the counts are summed up. -/
def W (b : Ref sig .tc) : Buf (Elt F) ((core.tc : Thread nD τ).loc b) := StableHlo.after (hostOps0 ++ hostOps0_1) (fun b => m (core, b)) b

theorem W_v2 : W m main_v2 = counts (m (core, main_arg1)) := by
  unfold W
  simp only [hostOps0, hostOps0_1, List.cons_append, List.nil_append]
  after_reads_simp
  rfl

/-- The running sum. -/
def sums (x : IVec S32 32) (v : IVec S_ 32) : IVec S32 32 :=
  Host.reduceWindow IntOp.addi ![32] ![1] ![31] ![0] x v reduceWindows_S32_S32_w32s1p31_0 h_S_

theorem W_v3 : W m main_v3 = sums (W m main_v2) (broadcastInDim S_ ![] bcast_S_S_ (constantI S_ 32 0#32)) := by
  unfold W
  simp only [hostOps0, hostOps0_1, List.cons_append, List.nil_append]
  have hs : sums = ((fun x v => Host.reduceWindow IntOp.addi ![32] ![1] ![31] ![0] x v reduceWindows_S32_S32_w32s1p31_0 h_S_) : IVec S32 32 → IVec S_ 32 → IVec S32 32) := rfl
  generalize ((fun x v => Host.reduceWindow IntOp.addi ![32] ![1] ![31] ![0] x v reduceWindows_S32_S32_w32s1p31_0 h_S_) : IVec S32 32 → IVec S_ 32 → IVec S32 32) = f at hs ⊢
  rw [hs]
  after_reads_simp
  rfl

theorem W_arg0 : W m main_arg0 = m (core, main_arg0) := by
  unfold W
  simp only [hostOps0, hostOps0_1, List.cons_append, List.nil_append]
  after_reads_simp

theorem tab_of_W (U : Valuation τ sig (Elt F)) (a : IVec S32 32) (b : IVec S32 32) (c : IVec S64x8x256 32)
    (ha : U (main_v3 : DevRef τ sig) = a) (hb : U (main_v2 : DevRef τ sig) = b) (hc : U (main_arg0 : DevRef τ sig) = c) :
    StableHlo.after hostOps0_2 U (main_v36 : DevRef τ sig) = tabTerm c (subi a b) := by
  simp only [hostOps0_2]
  generalize hcc : ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)) = cc
  after_reads_simp
  rw [← hcc, ha, hb, hc]
  rfl

theorem tab_eq : tab m = tabTerm (m (core, main_arg0)) (starts (m (core, main_arg1))) := by
  unfold tab V
  have hl : (hostOps : List (List (HloOp τ sig (Elt F)))).flatten = (hostOps0 ++ hostOps0_1) ++ hostOps0_2 := rfl
  rw [hl, StableHlo.after_append]
  refine (tab_of_W _ _ _ _ ((W_v3 m).trans (congrArg (fun x => sums x _) (W_v2 m))) (W_v2 m) (W_arg0 m)).trans ?_
  rfl

theorem act_eq (c : Dev nD) : act m c = m (c, main_arg2) := by
  unfold act V
  simp only [hostOps, List.flatten_cons, List.flatten_nil, List.append_nil, hostOps0, hostOps0_1, hostOps0_2, List.cons_append, List.nil_append]
  after_reads_simp
  try rfl

theorem arg0_kept (c : Dev nD) : V m c main_arg0 = m (c, main_arg0) := by
  unfold V
  simp only [hostOps, List.flatten_cons, List.flatten_nil, List.append_nil, hostOps0, hostOps0_1, hostOps0_2, List.cons_append, List.nil_append]
  after_reads_simp
  try rfl

theorem arg1_kept (c : Dev nD) : V m c main_arg1 = m (c, main_arg1) := by
  unfold V
  simp only [hostOps, List.flatten_cons, List.flatten_nil, List.append_nil, hostOps0, hostOps0_1, hostOps0_2, List.cons_append, List.nil_append]
  after_reads_simp
  try rfl

/-- An expert's first place is the number of assignments with a smaller expert. -/
theorem starts_apply {ri : IVec S64x8x256 32} {cnt : FVec F S32x128 .f32} (h : Ranked ri cnt) (x : Fin 32) :
    starts cnt (ix1 x) = BitVec.ofNat 32 (Nat.count (fun q => expert ri q < x.val) 32768) := by
  show IntOp.subi (Host.reduceWindow IntOp.addi ![32] ![1] ![31] ![0] (counts cnt) (broadcastInDim S_ ![] facts.bcast_S_S_ (constantI S_ 32 0#32))
    facts.reduceWindows_S32_S32_w32s1p31_0 facts.h_S_ (ix1 x)) (counts cnt (ix1 x)) = _
  have hs := cumsum1 (N := 32) (Nm1 := 31) rfl (counts cnt) (fun y => Nat.count (fun q => expert ri q = y) 32768) (fun i => h.count i)
    (broadcastInDim S_ ![] facts.bcast_S_S_ (constantI S_ 32 0#32)) (bc0 _ _ _) facts.reduceWindows_S32_S32_w32s1p31_0 facts.h_S_ x
  rw [h.count x]
  rw [hs, sum_count_eq, ← count_lt_add_eq]
  refine (ofNat32_sub (Nat.le_add_left _ _)).trans ?_
  rw [Nat.add_sub_cancel]

theorem wrapped_apply (e : IVec S16384 32) (t : Fin 16384) (h : (e (ix1 t)).toNat < 32) :
    wrapped e (ix1 t) = e (ix1 t) := by
  have h0 : cmpi .slt e (broadcastInDim S16384 ![] facts.bcast_S_S16384 (constantI S_ 32 0#32)) (ix1 t) = 0#1 := by
    show IntOp.cmpi .slt (e (ix1 t)) 0#32 = 0#1
    have : ¬ IntOp.cmpi .slt (e (ix1 t)) 0#32 = 1#1 := by
      rw [cmpi_slt_one, BitVec.toInt_eq_toNat_cond, if_pos (by omega)]
      show ¬ ((e (ix1 t)).toNat : Int) < 0
      omega
    revert this
    generalize IntOp.cmpi .slt (e (ix1 t)) 0#32 = b
    revert b
    decide
  unfold wrapped select
  rw [h0]
  rfl

theorem placesRow_apply {ri : IVec S64x8x256 32} {cnt : FVec F S32x128 .f32} (h : Ranked ri cnt) (e r : IVec S16384 32) (t : Fin 16384)
    (k : Fin 32768) (he : e (ix1 t) = experts ri (ix1 k)) (hr : r (ix1 t) = ranks ri (ix1 k)) :
    placesRow (starts cnt) e r (ix1 t) = BitVec.ofNat 32 (place 32768 (expert ri) k.val) := by
  have hlt : (e (ix1 t)).toNat < 32 := by rw [he, ← expert_fin]; exact h.lt k
  show IntOp.addi (Host.gather _ _ _ (ix1 t)) (r (ix1 t)) = _
  have hg : Host.gather gather_S32_S16384x1_S16384_n_0_n_n_0_1_1 (starts cnt) (broadcastInDim S16384x1 ![0] facts.bcast_S16384_S16384x1_0 (wrapped e)) (ix1 t)
      = starts cnt (ix1 ⟨(e (ix1 t)).toNat, hlt⟩) := by
    refine take_ap (N := 32) (n := 16384) _ rfl rfl rfl rfl _ _ t hlt (by omega) ?_
    refine (bcCol _ _ t).trans ((wrapped_apply e t hlt).trans ?_)
    rw [BitVec.ofNat_toNat, BitVec.setWidth_eq]
  rw [hr, h.rank k]
  refine (congrArg (fun w => IntOp.addi w _) (hg.trans (starts_apply h _))).trans ?_
  show BitVec.ofNat 32 _ + BitVec.ofNat 32 _ = _
  rw [BitVec.ofNat_add_ofNat]
  unfold place
  have hx : (e (ix1 t)).toNat = expert ri k.val := by rw [he, expert_fin]
  simp only [hx]

/-- Assignment `k`'s entry of the table is its place. -/
theorem tabTerm_apply {ri : IVec S64x8x256 32} {cnt : FVec F S32x128 .f32} (h : Ranked ri cnt) (k : Fin 32768) :
    tabTerm ri (starts cnt) (ix1 k) = BitVec.ofNat 32 (place 32768 (expert ri) k.val) := by
  unfold tabTerm
  rw [inter_apply]
  split
  · next h0 =>
    exact placesRow_apply h _ _ _ k (by unfold experts; rw [inter_apply, if_pos h0]) (by unfold ranks; rw [inter_apply, if_pos h0])
  · next h0 =>
    exact placesRow_apply h _ _ _ k (by unfold experts; rw [inter_apply, if_neg h0]) (by unfold ranks; rw [inter_apply, if_neg h0])

theorem tab_word (h : Ranked (m (core, main_arg0)) (m (core, main_arg1))) (k : Fin 32768) :
    (word (tab m) k).toNat = place 32768 (expert (m (core, main_arg0))) k.val := by
  unfold word
  rw [tab_eq, tabTerm_apply h, BitVec.toNat_ofNat, Nat.mod_eq_of_lt]
  have := place_lt 32768 (expert (m (core, main_arg0))) k.isLt
  omega

/-- The table sends the assignments to different rows. -/
theorem places (h : Ranked (m (core, main_arg0)) (m (core, main_arg1))) : Places (tab m) where
  lt k := by rw [tab_word m h]; exact place_lt _ _ k.isLt
  inj k k' e := by rw [tab_word m h, tab_word m h] at e; exact Fin.ext (place_inj _ _ k.isLt k'.isLt e)

end Cert.Dispatch
-- ==== Proof.Dispatch.Sorted.lean ====
/-
  The reference sorts the assignments by expert, stably, and gathers the activations' rows in that order. Read at the
  place of assignment `k`, the result is the row of the token `k / 2`.
-/
module

public import proofs.«01_k».proof.Proof.Dispatch.Given
public import proofs.«01_k».proof.Proof.Gen.ReferenceIdeal.Run

@[expose] public section

noncomputable section

namespace Cert.Dispatch.Sorted

open Idealize.ShloMosaic Idealize.ShloMosaic.Routing Cert.Dispatch
open Idealize.ShloMosaic.ValueIdx (ix1 ix2 ix3 ix0)
open Cert.ReferenceIdeal Cert.ReferenceIdeal.Gen

variable {F : FTy → Type} [FloatOps F]

/-- The assignments in order of expert. -/
def order (e : IVec S32768 32) : IVec S32768 32 := (Host.sort2 S32768 0 comparator_i32_i32_d0 e (iotaInDim S32768 32 0)).2

/-- A vector of indices with `n` added to those below zero. -/
def wrapped (n : BitVec 32) (x : IVec S32768 32) : IVec S32768 32 :=
  select (cmpi .slt x (broadcastInDim S32768 ![] facts.bcast_S_S32768 (constantI S_ 32 0#32)))
    (addi x (broadcastInDim S32768 ![] facts.bcast_S_S32768 (constantI S_ 32 n))) x

/-- Each assignment's token. -/
def tokens : IVec S32768 32 :=
  shapeCast _ (broadcastInDim S16384x2 ![0] facts.bcast_S16384_S16384x2_0 (iotaInDim S16384 32 0)) facts.shapeCasts_S16384x2_S32768

/-- The tokens in order of expert. -/
def sortedTokens (e : IVec S32768 32) : IVec S32768 32 :=
  Host.gather gather_S32768_S32768x1_S32768_n_0_n_n_0_1_1 tokens (broadcastInDim S32768x1 ![0] facts.bcast_S32768_S32768x1_0 (wrapped 32768#32 (order e)))

/-- The reference's result. -/
def out (ri : IVec S64x8x256 32) (h2 : FVec F S16384x2048 .f32) : FVec F S32768x2048 .f32 :=
  Host.gather gather_S16384x2048_S32768x1_S32768x2048_1_0_n_n_0_1_12048 h2
    (broadcastInDim S32768x1 ![0] facts.bcast_S32768_S32768x1_0 (wrapped 16384#32 (sortedTokens (experts ri))))

theorem wrapped_apply (n : BitVec 32) (x : IVec S32768 32) (k : Fin 32768) (a : Nat) (ha : a < 2 ^ 31) (h : x (ix1 k) = BitVec.ofNat 32 a) :
    wrapped n x (ix1 k) = BitVec.ofNat 32 a := by
  have h0 : cmpi .slt x (broadcastInDim S32768 ![] facts.bcast_S_S32768 (constantI S_ 32 0#32)) (ix1 k) = 0#1 := by
    show IntOp.cmpi .slt (x (ix1 k)) 0#32 = 0#1
    have : ¬ IntOp.cmpi .slt (x (ix1 k)) 0#32 = 1#1 := by
      rw [cmpi_slt_one, h, BitVec.toInt_eq_toNat_cond, BitVec.toNat_ofNat, Nat.mod_eq_of_lt (by omega), if_pos (by omega)]
      show ¬ (a : Int) < 0
      omega
    revert this
    generalize IntOp.cmpi .slt (x (ix1 k)) 0#32 = b
    revert b
    decide
  unfold wrapped select
  rw [h0, ← h]
  rfl

/-- The comparison of the sort, at experts that are small numbers. -/
theorem comparator_eq {ri : IVec S64x8x256 32} (he : ∀ k : Fin 32768, expert ri k.val < 32) (a b : Fin 32768) (p q : BitVec 32) :
    (comparator_i32_i32_d0 (experts ri (ix1 a), p) (experts ri (ix1 b), q) == 1#1) = decide (expert ri a.val < expert ri b.val) := by
  have ha := he a
  have hb := he b
  rw [expert_fin] at ha hb
  have : comparator_i32_i32_d0 (experts ri (ix1 a), p) (experts ri (ix1 b), q) = 1#1 ↔ expert ri a.val < expert ri b.val := by
    refine (cmpi_slt_one (experts ri (ix1 a)) (experts ri (ix1 b))).trans ?_
    rw [BitVec.toInt_eq_toNat_cond, BitVec.toInt_eq_toNat_cond, if_pos (by omega), if_pos (by omega), expert_fin, expert_fin]
    omega
  by_cases h : expert ri a.val < expert ri b.val
  · rw [this.2 h, decide_eq_true h]; rfl
  · rw [decide_eq_false h]
    exact beq_eq_false_iff_ne.2 fun e => h (this.1 e)

/-- The assignment at position `i` of the order. -/
def at_ (ri : IVec S64x8x256 32) (i : Fin 32768) : Fin 32768 :=
  sortedFrom (fun a b : Fin 32768 => decide (expert ri a.val < expert ri b.val)) i

/-- The second result of a sort along a vector: entry `i` is the entry of the position sorted to `i`. -/
theorem sort2_second {n : Nat} {α β : Type} (cmp : α × β → α × β → BitVec 1) (x : (shape1 n).Idx → α) (y : (shape1 n).Idx → β)
    (T : Fin n → Fin n → Bool) (hT : ∀ a b, (cmp (x (ix1 a), y (ix1 a)) (x (ix1 b), y (ix1 b)) == 1#1) = T a b) (i : Fin n) :
    (Host.sort2 (shape1 n) 0 cmp x y).2 (ix1 i) = y (ix1 (sortedFrom T i)) := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (ofFin_eq_ix1 c)
  have hbefore : (fun a b : Fin n => cmp (x ((ix1 i).along ⟨0, hd⟩ a), y ((ix1 i).along ⟨0, hd⟩ a)) (x ((ix1 i).along ⟨0, hd⟩ b), y ((ix1 i).along ⟨0, hd⟩ b)) == 1#1) = T := by
    funext a b
    rw [e _ a, e _ b]
    exact hT a b
  have hsrc : sortedFrom (n := n)
      (fun a b : Fin n => cmp (x ((ix1 i).along ⟨0, hd⟩ a), y ((ix1 i).along ⟨0, hd⟩ a)) (x ((ix1 i).along ⟨0, hd⟩ b), y ((ix1 i).along ⟨0, hd⟩ b)) == 1#1) i = sortedFrom T i := by
    rw [hbefore]
  unfold Host.sort2
  rw [dif_pos hd]
  exact (congrArg (fun c : Fin n => y ((ix1 i).along ⟨0, hd⟩ c)) hsrc).trans (congrArg y (e _ _))

theorem order_apply {ri : IVec S64x8x256 32} (he : ∀ k : Fin 32768, expert ri k.val < 32) (i : Fin 32768) :
    order (experts ri) (ix1 i) = BitVec.ofNat 32 (at_ ri i).val := by
  have h := sort2_second (n := 32768) comparator_i32_i32_d0 (experts ri) (iotaInDim S32768 32 0) _ (fun a b => comparator_eq he a b _ _) i
  refine Eq.trans h ?_
  show iotaInDim S32768 32 0 (ix1 (at_ ri i)) = _
  generalize at_ ri i = c
  rfl

theorem tokens_apply (k : Fin 32768) : tokens (ix1 k) = BitVec.ofNat 32 (k.val / 2) := by
  have hk := k.isLt
  unfold tokens
  refine (cast21 _ _ (⟨k.val / 2, by omega⟩ : Fin 16384) (⟨k.val % 2, by omega⟩ : Fin 2) k (by show k.val = k.val / 2 * 2 + k.val % 2; omega)).trans ?_
  refine (broadcastInDim_apply _ _ _ _ (ix1 (⟨k.val / 2, by omega⟩ : Fin 16384)) fun a => ?_).trans rfl
  match a with
  | ⟨0, _⟩ => rfl

/-- A gather of single entries, at an index that is a position. -/
theorem take_at {α : Type} {N n : Nat} (d : GatherDims (shape1 N) (shape2 n 1) (shape1 n)) (hcoll : d.collapsedSliceDims = [0]) (hob : d.operandBatchingDims = [])
    (hsim : d.startIndexMap = [0]) (hivd : d.indexVectorDim = 1) (x : (shape1 N).Idx → α) (idx : IVec (shape2 n 1) 32) (p : Fin n) (c : Fin N)
    (hN : N < 2 ^ 31) (hidx : idx (ix2 p (0 : Fin 1)) = BitVec.ofNat 32 c.val) : Host.gather d x idx (ix1 p) = x (ix1 c) :=
  take_ap d hcoll hob hsim hivd x idx p c.isLt (Nat.lt_trans c.isLt hN) hidx

/-- Read through a wrapped index vector kept as a column. -/
theorem wrapped_col (n : BitVec 32) (x : IVec S32768 32) (i : Fin 32768) (a : Nat) (ha : a < 2 ^ 31) (h : x (ix1 i) = BitVec.ofNat 32 a) :
    broadcastInDim S32768x1 ![0] facts.bcast_S32768_S32768x1_0 (wrapped n x) (ix2 i (0 : Fin 1)) = BitVec.ofNat 32 a :=
  (bcCol facts.bcast_S32768_S32768x1_0 (wrapped n x) i).trans (wrapped_apply n x i a ha h)

theorem sortedTokens_of (e x : IVec S32768 32) (c i : Fin 32768) (ho : order e (ix1 i) = BitVec.ofNat 32 c.val) :
    Host.gather gather_S32768_S32768x1_S32768_n_0_n_n_0_1_1 x (broadcastInDim S32768x1 ![0] facts.bcast_S32768_S32768x1_0 (wrapped 32768#32 (order e))) (ix1 i)
      = x (ix1 c) := by
  have hl := c.isLt
  have hw := wrapped_col 32768#32 (order e) i c.val (by omega) ho
  exact take_at (N := 32768) (n := 32768) gather_S32768_S32768x1_S32768_n_0_n_n_0_1_1 rfl rfl rfl rfl x _ i c (by omega) hw

theorem sortedTokens_apply {ri : IVec S64x8x256 32} (he : ∀ k : Fin 32768, expert ri k.val < 32) (i : Fin 32768) :
    sortedTokens (experts ri) (ix1 i) = BitVec.ofNat 32 ((at_ ri i).val / 2) :=
  (sortedTokens_of (experts ri) tokens (at_ ri i) i (order_apply he i)).trans (tokens_apply (at_ ri i))

theorem out_of (x : IVec S32768 32) (h2 : FVec F S16384x2048 .f32) (i : Fin 32768) (y : Fin 2048) (t : Fin 16384) (ho : x (ix1 i) = BitVec.ofNat 32 t.val) :
    Host.gather gather_S16384x2048_S32768x1_S32768x2048_1_0_n_n_0_1_12048 h2
      (broadcastInDim S32768x1 ![0] facts.bcast_S32768_S32768x1_0 (wrapped 16384#32 x)) (ix2 i y) = h2 (ix2 t y) := by
  have hl := t.isLt
  have hw := wrapped_col 16384#32 x i t.val (by omega) ho
  exact gather_row (nb := 16384) (B := 2048) (n := 32768) gather_S16384x2048_S32768x1_S32768x2048_1_0_n_n_0_1_12048 rfl rfl rfl rfl rfl h2 _ i y t hw (by omega)

theorem out_apply {ri : IVec S64x8x256 32} (he : ∀ k : Fin 32768, expert ri k.val < 32) (h2 : FVec F S16384x2048 .f32) (i : Fin 32768) (y : Fin 2048) :
    out ri h2 (ix2 i y) = h2 (ix2 (⟨(at_ ri i).val / 2, by have := (at_ ri i).isLt; omega⟩ : Fin 16384) y) :=
  out_of (sortedTokens (experts ri)) h2 i y _ (sortedTokens_apply he i)

/-- At the place of assignment `k`: the row of token `k / 2`. -/
theorem out_at {ri : IVec S64x8x256 32} (he : ∀ k : Fin 32768, expert ri k.val < 32) (h2 : FVec F S16384x2048 .f32) (k : Fin 32768)
    (y : S32768x2048.Idx) (hy : (y 0).val = place 32768 (expert ri) k.val) :
    out ri h2 y = h2 (ix2 (⟨k.val / 2, by omega⟩ : Fin 16384) (y 1)) := by
  have hs := place_sorted (N := 32768) (expert ri) (y 0)
  have hk : at_ ri (y 0) = k := Fin.ext (place_inj 32768 (expert ri) (Fin.isLt _) k.isLt (hs.trans hy))
  have := out_apply he h2 (y 0) (y 1)
  simp only [hk] at this
  rw [← this]
  exact congrArg (out ri h2) (ValueIdx.eq_ix2 y)

end Cert.Dispatch.Sorted
-- ==== Proof.Dispatch.Both.lean ====
/-
  The two programs of the dispatch, at any reading of the floats: under the precondition the kernel's run ends with the
  reference's result, its arguments as they were and every semaphore at zero; and so does the reference's.
-/
module

public import proofs.«01_k».proof.Proof.Dispatch.Table
public import proofs.«01_k».proof.Proof.Dispatch.Sorted

@[expose] public section

noncomputable section

namespace Cert.Dispatch

open Idealize.ShloMosaic Idealize.ShloMosaic.TcCoe
open Idealize.ShloMosaic.ValueIdx (ix1 ix2 ix3 ix0)
open Idealize.SL.Sem

variable {F : FTy → Type} [FloatOps F] [∀ e, Nonempty (Elt F e)]

section Kernel

open Cert.KernelIdeal Cert.KernelIdeal.Gen

variable (m : (ℓ : Loc nD τ sig) → Buf (Elt F) ℓ) (ρ : Dev nD → PrngReg)

/-- The result's contents: the reference's, at the kernel's arguments. -/
def result (c : Dev nD) : Out F := Sorted.out (m (c, main_arg0)) (m (c, main_arg2))

theorem placed (h : Ranked (m (core, main_arg0)) (m (core, main_arg1))) : Placed m (result m) := by
  intro c k y hy
  obtain rfl := core_eq c
  rw [tab_word m h] at hy
  rw [act_eq]
  exact Sorted.out_at h.lt _ k y hy

/-- The kernel's run. -/
theorem run (h : Ranked (m (core, main_arg0)) (m (core, main_arg1))) :
    θ_run defs (onTc (τ := τ) (main (F := F))) ⟨m, fun _ => 0, ρ⟩ fun r =>
      (∀ c : Dev nD, r.2.mem ((c.tc : Thread nD τ).loc main_v37) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  refine (θ_run defs _ _).mono (fun r h => ⟨fun c => ⟨?_, ?_, ?_, ?_⟩, h.2⟩) (run_main m ρ (result m) (places m h) (placed m h))
  · exact (h.1.2 c main_v37 (Finset.mem_singleton_self _)).trans (ends_out m (result m) c)
  · exact ((h.1.1 c).2 main_arg0 (Finset.mem_sdiff.mpr ⟨Pipeline.mem_restRefs_of main_arg0 (by decide) (show ∀ w, (spec0 w).arr.view.ref ≠ main_arg0 by decide), by decide⟩)).trans (arg0_kept m c)
  · exact ((h.1.1 c).2 main_arg1 (Finset.mem_sdiff.mpr ⟨Pipeline.mem_restRefs_of main_arg1 (by decide) (show ∀ w, (spec0 w).arr.view.ref ≠ main_arg1 by decide), by decide⟩)).trans (arg1_kept m c)
  · exact (((h.1.1 c).1 0).trans (Pipeline.Dat.arrAt_in _ 0 rfl _)).trans (act_eq m c)

end Kernel

section Reference

open Cert.ReferenceIdeal Cert.ReferenceIdeal.Gen

variable (m : (ℓ : Loc nD τ sig) → Buf (Elt F) ℓ) (ρ : Dev nD → PrngReg)

theorem ref_out (c : Dev nD) : Cert.ReferenceIdeal.Value.res_main_v27 m c
    = Sorted.out (m ((c.tc : Thread nD τ).loc main_arg0)) (m ((c.tc : Thread nD τ).loc main_arg2)) := rfl

theorem ref_run :
    θ_run defs (onTc (τ := τ) (main (F := F))) ⟨m, fun _ => 0, ρ⟩ fun r =>
      (∀ c : Dev nD, r.2.mem ((c.tc : Thread nD τ).loc main_v27) = Sorted.out (m ((c.tc : Thread nD τ).loc main_arg0)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  refine (θ_run defs _ _).mono (fun r h => ⟨fun c => ⟨((h c).1).trans (ref_out m c), (h c).2.1, (h c).2.2.1, (h c).2.2.2⟩,
    sem_eq_zero_of_no_sems (by decide) r.2⟩) (Cert.ReferenceIdeal.Value.run m ρ)

end Reference

end Cert.Dispatch
-- ==== Proof.Projection.Spec.lean ====
/-
  The input projection: what both programs compute, entry by entry, and the reference's two results read so.
-/
module

public import proofs.«01_k».proof.Proof.Gen.Reference2Ideal.Run
public import Idealize.ShloMosaic.Lib.Pointwise

@[expose] public section

noncomputable section

namespace Cert.Projection

open Cert.Reference2Ideal Idealize.ShloMosaic Idealize.ShloMosaic.TcCoe

/-- One entry of the activations: the row of `x` at batch `b` and position `s`, divided by its root mean square, times the
    gain, scaled and shifted by the second and first of the six parts of `w`. -/
def act (x : Vec Ideal S4x4096x2048 .f32) (g : Vec Ideal S2048 .f32) (w : Vec Ideal S4x12288 .f32) (b : Fin 4) (s : Fin 4096) (k : Fin 2048) : EReal :=
  x (ix3 b s k) * Ideal.rsqrt (Ideal.div (∑ j, x (ix3 b s j) * x (ix3 b s j)) (Ideal.ofBits .f32 0x45000000#32) + Ideal.ofBits .f32 0x358637BD#32)
      * g (ix1 k) * (1 + w (ix2 b ⟨2048 + k.val, by have := k.isLt; omega⟩))
    + w (ix2 b ⟨k.val, by have := k.isLt; omega⟩)

/-- One entry of the weights with their columns in the order in which the results hold them: the two latents, the
    indexer's key and weights, the two gates, a gap of zeros, and the four parts of the second mixer. -/
def weight (W : Vec Ideal S2048x3920 .f32) (k : Fin 2048) (c : Fin 4096) : EReal :=
  if h : c.val < 840 then W (ix2 k ⟨c.val, by omega⟩)
  else if h : c.val < 848 then W (ix2 k ⟨c.val + 3072, by omega⟩)
  else if h : c.val < 1024 then 0
  else W (ix2 k ⟨c.val - 184, by have := c.isLt; omega⟩)

/-- One entry of the projection. -/
def proj (x : Vec Ideal S4x4096x2048 .f32) (g : Vec Ideal S2048 .f32) (w : Vec Ideal S4x12288 .f32) (W : Vec Ideal S2048x3920 .f32)
    (r : Fin 16384) (c : Fin 4096) : EReal :=
  ∑ k, act x g w ⟨r.val / 4096, by have := r.isLt; omega⟩ ⟨r.val % 4096, by omega⟩ k * weight W k c

/-- A column whose place in the results is known. -/
theorem weight_eq (W : Vec Ideal S2048x3920 .f32) (c : Fin 4096) (d : Fin 3920)
    (h : c.val < 840 ∧ d.val = c.val ∨ 840 ≤ c.val ∧ c.val < 848 ∧ d.val = c.val + 3072 ∨ 1024 ≤ c.val ∧ d.val = c.val - 184) (k : Fin 2048) :
    weight W k c = W (ix2 k d) := by
  unfold weight
  split_ifs <;> first | omega | (congr 2; apply Fin.ext; simp only; omega)

theorem weight_zero (W : Vec Ideal S2048x3920 .f32) (c : Fin 4096) (h : 848 ≤ c.val ∧ c.val < 1024) (k : Fin 2048) : weight W k c = 0 := by
  unfold weight
  split_ifs <;> first | omega | rfl

variable (m : (ℓ : Loc nD τ sig) → Buf (Elt Ideal) ℓ)

/-- An array holds the product. -/
def IsProduct (m : (ℓ : Loc nD τ sig) → Buf (Elt Ideal) ℓ) (c : Dev nD) (Z : Vec Ideal S4x4096x3920 .f32) : Prop :=
  ∀ b s d, Z (ix3 b s d) = ∑ k, act (m ((c.tc : Thread nD τ).loc main_arg0)) (m ((c.tc : Thread nD τ).loc main_arg1))
    (m ((c.tc : Thread nD τ).loc main_arg2)) b s k * m ((c.tc : Thread nD τ).loc main_arg3) (ix2 k d)

theorem proj_of {m : (ℓ : Loc nD τ sig) → Buf (Elt Ideal) ℓ} {c : Dev nD} {Z : Vec Ideal S4x4096x3920 .f32} (hZ : IsProduct m c Z)
    (r : Fin 16384) (c' : Fin 4096) (d : Fin 3920)
    (h : ∀ k, weight (m ((c.tc : Thread nD τ).loc main_arg3)) k c' = m ((c.tc : Thread nD τ).loc main_arg3) (ix2 k d)) :
    Z (ix3 ⟨r.val / 4096, by have := r.isLt; omega⟩ ⟨r.val % 4096, by omega⟩ d) =
      proj (m ((c.tc : Thread nD τ).loc main_arg0)) (m ((c.tc : Thread nD τ).loc main_arg1))
      (m ((c.tc : Thread nD τ).loc main_arg2)) (m ((c.tc : Thread nD τ).loc main_arg3)) r c' :=
  (hZ _ _ _).trans (Finset.sum_congr rfl fun k _ => by rw [h])

theorem proj_zero (x : Vec Ideal S4x4096x2048 .f32) (g : Vec Ideal S2048 .f32) (w : Vec Ideal S4x12288 .f32) (W : Vec Ideal S2048x3920 .f32)
    (r : Fin 16384) (c : Fin 4096) (h : ∀ k, weight W k c = 0) : 0 = proj x g w W r c :=
  (Finset.sum_eq_zero fun k _ => by rw [h, mul_zero]).symm

/-- The reference's first result. -/
theorem ref_z (c : Dev nD) (r : Fin 16384) (k : Fin 4096) :
    Value.res_out0 m c (ix2 r k) = proj (m ((c.tc : Thread nD τ).loc main_arg0)) (m ((c.tc : Thread nD τ).loc main_arg1))
      (m ((c.tc : Thread nD τ).loc main_arg2)) (m ((c.tc : Thread nD τ).loc main_arg3)) r k := by
  show Value.res_main_v42 m c (ix2 r k) = _
  unfold Value.res_main_v42
  generalize hz : Host.dotGeneral (F := Ideal) (φ₁ := .f32) (φ₂ := .f32) dot_S4x4096x2048_S2048x3920_S4x4096x3920_2_0_01_1_n_n none _ _ = Z
  have hZ : IsProduct m c Z := by
    intro b s d
    rw [← hz]
    pointwise
    rfl
  clear hz
  pointwise
  have hk := k.isLt
  split_ifs <;> first
    | exact proj_of hZ r k _ (weight_eq _ k _ (by dsimp only; omega))
    | exact proj_zero _ _ _ _ r k (weight_zero _ k (by omega))

/-- The reference's second result: 128 columns of the first, from the 768th on. -/
theorem ref_kw (c : Dev nD) (r : Fin 16384) (k : Fin 128) :
    Value.res_out1 m c (ix2 r k) = proj (m ((c.tc : Thread nD τ).loc main_arg0)) (m ((c.tc : Thread nD τ).loc main_arg1))
      (m ((c.tc : Thread nD τ).loc main_arg2)) (m ((c.tc : Thread nD τ).loc main_arg3)) r ⟨k.val + 768, by have := k.isLt; omega⟩ := by
  show Value.res_main_v43 m c (ix2 r k) = _
  unfold Value.res_main_v43
  generalize hz : Host.dotGeneral (F := Ideal) (φ₁ := .f32) (φ₂ := .f32) dot_S4x4096x2048_S2048x3920_S4x4096x3920_2_0_01_1_n_n none _ _ = Z
  have hZ : IsProduct m c Z := by
    intro b s d
    rw [← hz]
    pointwise
    rfl
  clear hz
  pointwise
  have hk := k.isLt
  split_ifs <;> first
    | exact proj_of hZ r _ _ (weight_eq _ _ _ (by dsimp only; omega))
    | exact proj_zero _ _ _ _ r _ (weight_zero _ _ (by dsimp only; omega))

end Cert.Projection
end
-- ==== Proof.Projection.Block.lean ====
/-
  The input projection: what one step of the grid writes, and the two arrays after the last.
-/
module

public import proofs.«01_k».proof.Proof.Gen.Kernel2Ideal.Value
public import proofs.«01_k».proof.Proof.Projection.Spec
public import Idealize.ShloMosaic.Lib.StableHlo.RunRead
public import Idealize.ShloMosaic.Lib.Pointwise

@[expose] public section

noncomputable section

namespace Cert.Projection

open Cert.Kernel2Ideal Cert.Kernel2Ideal.Gen Idealize.ShloMosaic Idealize.ShloMosaic.TcCoe

/-! ## The body -/

theorem pay4_at (P0 : Vec Ideal S256x2048 .f32) (P1 : Vec Ideal S1x2048 .f32) (P2 P3 : Vec Ideal S1x1x1x2048 .f32) (r : Fin 256) (k : Fin 2048) :
    k0_pay4 P0 P1 P2 P3 (ix2 r k)
      = P0 (ix2 r k) * Ideal.rsqrt (Ideal.div (∑ x, P0 (ix2 r x) * P0 (ix2 r x)) (Ideal.ofBits .f32 0x45000000#32) + Ideal.ofBits .f32 0x358637BD#32)
          * P1 (ix2 0 k) * (1 + P2 (ix4 0 0 0 k)) + P3 (ix4 0 0 0 k) := by
  pointwise [k0_pay4]

/-- A row of the block times the weights, at any column. -/
def rowDot (h : Vec Ideal S256x2048 .bf16) (W : Vec Ideal S2048x4096 .bf16) : Vec Ideal S256x4096 .bf16 :=
  fun y => ∑ k : Fin 2048, h (ix2 (y 0) k) * W (ix2 k (y 1))

variable (h : Vec Ideal S256x2048 .bf16) (W : Vec Ideal S2048x4096 .bf16)

theorem rowDot_at (y : S256x4096.Idx) (a : Fin 256) (b : Fin 4096) (ha : a.val = (y 0).val) (hb : b.val = (y 1).val) :
    ∑ k : Fin 2048, h (ix2 a k) * W (ix2 k b) = rowDot h W y := by
  obtain rfl : a = y 0 := Fin.ext ha
  obtain rfl : b = y 1 := Fin.ext hb
  rfl

theorem part0 (P0 : Vec Ideal S256x2048 .f32) (P1 : Vec Ideal S1x2048 .f32) (P2 P3 : Vec Ideal S1x1x1x2048 .f32) (x : S256x1024.Idx) :
    k0_pay6 P0 P1 P2 P3 (View.ld W r0_3) x = rowDot (k0_pay4 P0 P1 P2 P3) W (r0_4.emb x) := by
  obtain ⟨a, b, rfl⟩ : ∃ a b, x = ix2 a b := ⟨x 0, x 1, ValueIdx.eq_ix2 x⟩
  pointwise [k0_pay6, k0_pay5]
  exact rowDot_at _ _ _ _ _ (show a.val = 0 + 1 * a.val by omega) (show b.val = 0 + 1 * b.val by omega)

theorem part1 (x : S256x1024.Idx) : k0_pay1 h (View.ld W r0_6) x = rowDot h W (r0_7.emb x) := by
  obtain ⟨a, b, rfl⟩ : ∃ a b, x = ix2 a b := ⟨x 0, x 1, ValueIdx.eq_ix2 x⟩
  pointwise [k0_pay1]
  exact rowDot_at _ _ _ _ _ (show a.val = 0 + 1 * a.val by omega) (show 1024 + b.val = 1024 + 1 * b.val by omega)

theorem part2 (x : S256x1024.Idx) : k0_pay2 h (View.ld W r0_8) x = rowDot h W (r0_9.emb x) := by
  obtain ⟨a, b, rfl⟩ : ∃ a b, x = ix2 a b := ⟨x 0, x 1, ValueIdx.eq_ix2 x⟩
  pointwise [k0_pay2]
  exact rowDot_at _ _ _ _ _ (show a.val = 0 + 1 * a.val by omega) (show 2048 + b.val = 2048 + 1 * b.val by omega)

theorem part3 (x : S256x1024.Idx) : k0_pay3 h (View.ld W r0_10) x = rowDot h W (r0_11.emb x) := by
  obtain ⟨a, b, rfl⟩ : ∃ a b, x = ix2 a b := ⟨x 0, x 1, ValueIdx.eq_ix2 x⟩
  pointwise [k0_pay3]
  exact rowDot_at _ _ _ _ _ (show a.val = 0 + 1 * a.val by omega) (show 3072 + b.val = 3072 + 1 * b.val by omega)

/-- What a step leaves in its block of the first array. -/
theorem out_z (x0 : Vec Ideal S256x2048 .f32) (x1 : Vec Ideal S1x2048 .f32) (x2 x3 : Vec Ideal S1x1x1x2048 .f32) (y : S256x4096.Idx) :
    out0_5 x0 x1 x2 x3 W y = rowDot (k0_pay4 x0 x1 x2 x3) W y := by
  have e : k0_pay8 x0 x1 x2 x3 W = k0_pay4 x0 x1 x2 x3 := by
    unfold k0_pay8
    rw [View.ld_unit_zero (by decide), View.ld_unit_zero (by decide), View.ld_unit_zero (by decide), View.ld_unit_zero (by decide)]
  unfold out0_5
  rw [e, View.ld_unit_zero (by decide), View.ld_unit_zero (by decide), View.ld_unit_zero (by decide), View.ld_unit_zero (by decide)]
  refine View.canon_apply_of_pieces (rowDot (k0_pay4 x0 x1 x2 x3) W) _ ?_ y (cover0_5 _ _ _ _ y)
  intro p hp
  simp only [List.mem_cons, List.not_mem_nil, or_false] at hp
  rcases hp with rfl | rfl | rfl | rfl
  · exact fun x => part3 _ _ x
  · exact fun x => part2 _ _ x
  · exact fun x => part1 _ _ x
  · exact fun x => part0 _ _ _ _ _ x

/-- What a step leaves in its block of the second array: 128 columns of the first. -/
theorem out_kw (x0 : Vec Ideal S256x2048 .f32) (x1 : Vec Ideal S1x2048 .f32) (x2 x3 : Vec Ideal S1x1x1x2048 .f32) (a : Fin 256) (b : Fin 128) :
    out0_6 x0 x1 x2 x3 W (ix2 a b) = rowDot (k0_pay4 x0 x1 x2 x3) W (ix2 a ⟨b.val + 768, by have := b.isLt; omega⟩) := by
  unfold out0_6
  rw [View.ld_unit_zero (by decide), View.ld_unit_zero (by decide), View.ld_unit_zero (by decide), View.ld_unit_zero (by decide), Value.canon6_eq]
  have e : Value.ix6_0 (ix2 a b) = ix2 a ⟨b.val + 768, by have := b.isLt; omega⟩ := by
    funext i
    match i with
    | ⟨0, _⟩ => rfl
    | ⟨1, _⟩ => rfl
  show k0_pay5 x0 x1 x2 x3 (View.ld W r0_3) (Value.ix6_0 (ix2 a b)) = _
  rw [e]
  pointwise [k0_pay5]
  exact rowDot_at _ _ _ _ _ rfl rfl

/-! ## The blocks -/

variable (m : (ℓ : Loc nD τ sig) → Buf (Elt Ideal) ℓ) (c : Dev nD)

/-- The indexer's columns and the gates', side by side. -/
def joinSmall : (main_v3 : Ref sig .tc).ty.Contents (Elt Ideal) → (main_v2 : Ref sig .tc).ty.Contents (Elt Ideal) → (main_v4 : Ref sig .tc).ty.Contents (Elt Ideal) :=
  fun a b => (concatenate S2048x80 1 [⟨S2048x72, (a : Vec Ideal S2048x72 .f32)⟩, ⟨S2048x8, (b : Vec Ideal S2048x8 .f32)⟩] concatenates_S2048x72_S2048x8_S2048x80_d1 : Vec Ideal S2048x80 .f32)

/-- The three groups of columns, side by side. -/
def joinAll : (main_v6 : Ref sig .tc).ty.Contents (Elt Ideal) → (main_v5 : Ref sig .tc).ty.Contents (Elt Ideal) → (main_v7 : Ref sig .tc).ty.Contents (Elt Ideal) → (main_v8 : Ref sig .tc).ty.Contents (Elt Ideal) :=
  fun a b c => (concatenate S2048x4096 1 [⟨S2048x768, (a : Vec Ideal S2048x768 .f32)⟩, ⟨S2048x256, (b : Vec Ideal S2048x256 .f32)⟩, ⟨S2048x3072, (c : Vec Ideal S2048x3072 .f32)⟩] concatenates_S2048x768_S2048x256_S2048x3072_S2048x4096_d1 : Vec Ideal S2048x4096 .f32)

/-- The host's operations before the region. -/
abbrev before : List (HloOp τ sig (Elt Ideal)) :=
  [ StableHlo.reshape main_arg0 main_v0 (rfl : (.f32 : EltTy) = .f32) shapeCasts_S4x4096x2048_S16384x2048,
    StableHlo.reshape main_arg2 main_v1 (rfl : (.f32 : EltTy) = .f32) shapeCasts_S4x12288_S4x6x1x2048,
    StableHlo.unary main_arg3 main_v2 ((extractStridedSlice S2048x8 ![0, 3912] · slices_S2048x3920_S2048x8_0_3912) : (⟨S2048x3920, .f32⟩ : BufTy).Contents (Elt Ideal) → (⟨S2048x8, .f32⟩ : BufTy).Contents (Elt Ideal)),
    StableHlo.unary main_arg3 main_v3 ((extractStridedSlice S2048x72 ![0, 768] · slices_S2048x3920_S2048x72_0_768) : (⟨S2048x3920, .f32⟩ : BufTy).Contents (Elt Ideal) → (⟨S2048x72, .f32⟩ : BufTy).Contents (Elt Ideal)),
    StableHlo.binary main_v3 main_v2 main_v4 joinSmall,
    StableHlo.nullary main_c (constantI S_ 32 0#32),
    StableHlo.TRef.unary (.of main_c : StableHlo.TRef sig ⟨S_, .i32⟩) (.of main_call0_v0 : StableHlo.TRef sig ⟨S_, .f32⟩) (sitofp (F := Ideal) .f32),
    StableHlo.TRef.binary (.of main_v4 : StableHlo.TRef sig ⟨S2048x80, .f32⟩) (.of main_call0_v0 : StableHlo.TRef sig ⟨S_, .f32⟩) (.of main_v5 : StableHlo.TRef sig ⟨S2048x256, .f32⟩) (fun x v => pad S2048x256 ![0, 0] ![0, 176] ![0, 0] x v pads_S2048x80_S2048x256_000_01760 h_S_),
    StableHlo.unary main_arg3 main_v6 ((extractStridedSlice S2048x768 ![0, 0] · slices_S2048x3920_S2048x768_0_0) : (⟨S2048x3920, .f32⟩ : BufTy).Contents (Elt Ideal) → (⟨S2048x768, .f32⟩ : BufTy).Contents (Elt Ideal)),
    StableHlo.unary main_arg3 main_v7 ((extractStridedSlice S2048x3072 ![0, 840] · slices_S2048x3920_S2048x3072_0_840) : (⟨S2048x3920, .f32⟩ : BufTy).Contents (Elt Ideal) → (⟨S2048x3072, .f32⟩ : BufTy).Contents (Elt Ideal)),
    StableHlo.nary ![main_v6, main_v5, main_v7] main_v8 (fun u => joinAll (u 0) (u 1) (u 2)),
    StableHlo.unary main_v8 main_v9 ((truncf (F := Ideal) (φ := .f32) .bf16 · bitsLt_bf16_f32) : (⟨S2048x4096, .f32⟩ : BufTy).Contents (Elt Ideal) → (⟨S2048x4096, .bf16⟩ : BufTy).Contents (Elt Ideal)),
    StableHlo.reshape main_arg1 main_v10 (rfl : (.f32 : EltTy) = .f32) shapeCasts_S2048_S1x2048 ]

theorem V_before (b : Ref sig .tc) : V m c b = StableHlo.after before (fun b => m (c, b)) b := rfl

/-- The weights as the host hands them over. -/
def hostW (W : Vec Ideal S2048x3920 .f32) : Vec Ideal S2048x4096 .bf16 :=
  truncf (F := Ideal) (φ := .f32) .bf16 (concatenate S2048x4096 1
    [⟨S2048x768, extractStridedSlice S2048x768 ![0, 0] W slices_S2048x3920_S2048x768_0_0⟩,
     ⟨S2048x256, pad S2048x256 ![0, 0] ![0, 176] ![0, 0] (concatenate S2048x80 1
        [⟨S2048x72, extractStridedSlice S2048x72 ![0, 768] W slices_S2048x3920_S2048x72_0_768⟩,
         ⟨S2048x8, extractStridedSlice S2048x8 ![0, 3912] W slices_S2048x3920_S2048x8_0_3912⟩]
        concatenates_S2048x72_S2048x8_S2048x80_d1)
      (sitofp (F := Ideal) .f32 (constantI S_ 32 0#32)) pads_S2048x80_S2048x256_000_01760 h_S_⟩,
     ⟨S2048x3072, extractStridedSlice S2048x3072 ![0, 840] W slices_S2048x3920_S2048x3072_0_840⟩]
    concatenates_S2048x768_S2048x256_S2048x3072_S2048x4096_d1) bitsLt_bf16_f32

theorem V_w_term : V m c main_v9 = hostW (m ((c.tc : Thread nD τ).loc main_arg3)) := by
  rw [V_before]
  after_reads_simp
  try dsimp only [Matrix.cons_val]
  try after_reads_simp
  rfl

theorem word_zero : FloatOps.sitofp (F := Ideal) .f32 0#32 = (0 : EReal) := by
  show (((0#32 : BitVec 32).toInt : ℝ) : EReal) = 0
  simp

/-- What the host makes of the weights, entry by entry. -/
theorem hostW_at (W : Vec Ideal S2048x3920 .f32) (k : Fin 2048) (j : Fin 4096) : hostW W (ix2 k j) = weight W k j := by
  have hj := j.isLt
  pointwise [hostW]
  split_ifs <;> first
    | omega
    | exact (weight_eq W j _ (by dsimp only; omega) k).symm
    | (rw [weight_zero W j (by omega) k]; exact word_zero)

theorem V_x : V m c main_v0 = shapeCast S16384x2048 (m ((c.tc : Thread nD τ).loc main_arg0)) shapeCasts_S4x4096x2048_S16384x2048 := by
  dsimp only [V, hostOps0, hostOps0_1, hostOps0_2, List.flatten_cons, List.flatten_nil, List.append_nil, List.cons_append, List.nil_append]
  after_reads_simp
  rfl

theorem V_mod : V m c main_v1 = shapeCast S4x6x1x2048 (m ((c.tc : Thread nD τ).loc main_arg2)) shapeCasts_S4x12288_S4x6x1x2048 := by
  dsimp only [V, hostOps0, hostOps0_1, hostOps0_2, List.flatten_cons, List.flatten_nil, List.append_nil, List.cons_append, List.nil_append]
  after_reads_simp
  rfl

theorem V_g : V m c main_v10 = shapeCast S1x2048 (m ((c.tc : Thread nD τ).loc main_arg1)) shapeCasts_S2048_S1x2048 := by
  dsimp only [V, hostOps0, hostOps0_1, hostOps0_2, List.flatten_cons, List.flatten_nil, List.append_nil, List.cons_append, List.nil_append]
  after_reads_simp
  rfl

end Cert.Projection
end
-- ==== Proof.Projection.Run.lean ====
/-
  The input projection: the two arrays after the last step of the grid, entry by entry.
-/
module

public import proofs.«01_k».proof.Proof.Projection.Block

@[expose] public section

noncomputable section

namespace Cert.Projection

open Cert.Kernel2Ideal Cert.Kernel2Ideal.Gen Idealize.ShloMosaic Idealize.ShloMosaic.TcCoe

variable (m : (ℓ : Loc nD τ sig) → Buf (Elt Ideal) ℓ) (c : Dev nD)

/-! ## The blocks a step reads -/

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = 0 ∧ win0_1.index t 1 = 0 :=
  (by decide +kernel : ∀ t : Fin grid0.N, win0_1.index t 0 = 0 ∧ win0_1.index t 1 = 0)

theorem at2 : ∀ t : Fin cfg0.N, win0_2.index t 0 = t.val / 16 ∧ win0_2.index t 1 = 1 ∧ win0_2.index t 2 = 0 ∧ win0_2.index t 3 = 0 :=
  (by decide +kernel : ∀ t : Fin grid0.N, win0_2.index t 0 = t.val / 16 ∧ win0_2.index t 1 = 1 ∧ win0_2.index t 2 = 0 ∧ win0_2.index t 3 = 0)

theorem at3 : ∀ t : Fin cfg0.N, win0_3.index t 0 = t.val / 16 ∧ win0_3.index t 1 = 0 ∧ win0_3.index t 2 = 0 ∧ win0_3.index t 3 = 0 :=
  (by decide +kernel : ∀ t : Fin grid0.N, win0_3.index t 0 = t.val / 16 ∧ win0_3.index t 1 = 0 ∧ win0_3.index t 2 = 0 ∧ win0_3.index t 3 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = t.val ∧ win0_5.index t 1 = 0 :=
  (by decide +kernel : ∀ t : Fin grid0.N, win0_5.index t 0 = t.val ∧ win0_5.index t 1 = 0)

theorem at6 : ∀ t : Fin cfg0.N, win0_6.index t 0 = t.val ∧ win0_6.index t 1 = 0 :=
  (by decide +kernel : ∀ t : Fin grid0.N, win0_6.index t 0 = t.val ∧ win0_6.index t 1 = 0)

theorem steps (t : Fin cfg0.N) : t.val < 64 := t.isLt.trans_eq N_0

/-- The array's row under row `r` of the block of step `t`. -/
def rowOf (t : Fin cfg0.N) (r : Fin 256) : Fin 16384 := ⟨t.val * 256 + r.val, by have := steps t; have := r.isLt; omega⟩

theorem blk0 (t : Fin cfg0.N) (r : Fin 256) (k : Fin 2048) : iblk m c 0 t (ix2 r k) = V m c main_v0 (ix2 (rowOf t r) k) := by
  show V m c main_v0 (((cfg0.win 0).blk t).view.emb (ix2 r k)) = _
  congr 1
  obtain ⟨h0, h1⟩ := at0 t
  funext i
  match i with
  | ⟨0, _⟩ => exact Fin.ext (show win0_0.index t 0 * 256 + 1 * r.val = t.val * 256 + r.val by rw [h0]; omega)
  | ⟨1, _⟩ => exact Fin.ext (show win0_0.index t 1 * 2048 + 1 * k.val = k.val by rw [h1]; omega)

theorem blk1 (t : Fin cfg0.N) (k : Fin 2048) : iblk m c 1 t (ix2 0 k) = V m c main_v10 (ix2 0 k) := by
  show V m c main_v10 (((cfg0.win 1).blk t).view.emb (ix2 0 k)) = _
  congr 1
  obtain ⟨h0, h1⟩ := at1 t
  funext i
  match i with
  | ⟨0, _⟩ => exact Fin.ext (show win0_1.index t 0 * 1 + 1 * 0 = 0 by rw [h0])
  | ⟨1, _⟩ => exact Fin.ext (show win0_1.index t 1 * 2048 + 1 * k.val = k.val by rw [h1]; omega)

theorem blk2 (t : Fin cfg0.N) (k : Fin 2048) :
    iblk m c 2 t (ix4 0 0 0 k) = V m c main_v1 (ix4 ⟨t.val / 16, by have := steps t; omega⟩ 1 0 k) := by
  show V m c main_v1 (((cfg0.win 2).blk t).view.emb (ix4 0 0 0 k)) = _
  congr 1
  obtain ⟨h0, h1, h2, h3⟩ := at2 t
  funext i
  match i with
  | ⟨0, _⟩ => exact Fin.ext (show win0_2.index t 0 * 1 + 1 * 0 = t.val / 16 by rw [h0]; omega)
  | ⟨1, _⟩ => exact Fin.ext (show win0_2.index t 1 * 1 + 1 * 0 = 1 by rw [h1])
  | ⟨2, _⟩ => exact Fin.ext (show win0_2.index t 2 * 1 + 1 * 0 = 0 by rw [h2])
  | ⟨3, _⟩ => exact Fin.ext (show win0_2.index t 3 * 2048 + 1 * k.val = k.val by rw [h3]; omega)

theorem blk3 (t : Fin cfg0.N) (k : Fin 2048) :
    iblk m c 3 t (ix4 0 0 0 k) = V m c main_v1 (ix4 ⟨t.val / 16, by have := steps t; omega⟩ 0 0 k) := by
  show V m c main_v1 (((cfg0.win 3).blk t).view.emb (ix4 0 0 0 k)) = _
  congr 1
  obtain ⟨h0, h1, h2, h3⟩ := at3 t
  funext i
  match i with
  | ⟨0, _⟩ => exact Fin.ext (show win0_3.index t 0 * 1 + 1 * 0 = t.val / 16 by rw [h0]; omega)
  | ⟨1, _⟩ => exact Fin.ext (show win0_3.index t 1 * 1 + 1 * 0 = 0 by rw [h1])
  | ⟨2, _⟩ => exact Fin.ext (show win0_3.index t 2 * 1 + 1 * 0 = 0 by rw [h2])
  | ⟨3, _⟩ => exact Fin.ext (show win0_3.index t 3 * 2048 + 1 * k.val = k.val by rw [h3]; omega)

theorem blk4 (t : Fin cfg0.N) (k : Fin 2048) (j : Fin 4096) : iblk m c 4 t (ix2 k j) = V m c main_v9 (ix2 k j) := by
  show V m c main_v9 (((cfg0.win 4).blk t).view.emb (ix2 k j)) = _
  congr 1
  obtain ⟨h0, h1⟩ := at4 t
  funext i
  match i with
  | ⟨0, _⟩ => exact Fin.ext (show win0_4.index t 0 * 2048 + 1 * k.val = k.val by rw [h0]; omega)
  | ⟨1, _⟩ => exact Fin.ext (show win0_4.index t 1 * 4096 + 1 * j.val = j.val by rw [h1]; omega)

/-! ## What the host hands over, entry by entry -/

theorem x_at (x : Vec Ideal S4x4096x2048 .f32) (r : Fin 16384) (k : Fin 2048) :
    shapeCast S16384x2048 x shapeCasts_S4x4096x2048_S16384x2048 (ix2 r k) = x (ix3 ⟨r.val / 4096, by have := r.isLt; omega⟩ ⟨r.val % 4096, by omega⟩ k) := by
  pointwise

theorem g_at (g : Vec Ideal S2048 .f32) (k : Fin 2048) : shapeCast S1x2048 g shapeCasts_S2048_S1x2048 (ix2 0 k) = g (ix1 k) := by
  pointwise

theorem w_at (w : Vec Ideal S4x12288 .f32) (b : Fin 4) (p : Fin 6) (k : Fin 2048) :
    shapeCast S4x6x1x2048 w shapeCasts_S4x12288_S4x6x1x2048 (ix4 b p 0 k) = w (ix2 b ⟨p.val * 2048 + k.val, by have := p.isLt; have := k.isLt; omega⟩) := by
  pointwise

/-! ## One step -/

/-- A row of the activations, of blocks known entry by entry. -/
theorem act_of {P0 : Vec Ideal S256x2048 .f32} {P1 : Vec Ideal S1x2048 .f32} {P2 P3 : Vec Ideal S1x1x1x2048 .f32}
    {x : Vec Ideal S4x4096x2048 .f32} {g : Vec Ideal S2048 .f32} {w : Vec Ideal S4x12288 .f32} {b : Fin 4} {s : Fin 4096} {r : Fin 256}
    (h0 : ∀ k, P0 (ix2 r k) = x (ix3 b s k)) (h1 : ∀ k, P1 (ix2 0 k) = g (ix1 k))
    (h2 : ∀ k : Fin 2048, P2 (ix4 0 0 0 k) = w (ix2 b ⟨2048 + k.val, by have := k.isLt; omega⟩))
    (h3 : ∀ k : Fin 2048, P3 (ix4 0 0 0 k) = w (ix2 b ⟨k.val, by have := k.isLt; omega⟩)) (k : Fin 2048) :
    k0_pay4 P0 P1 P2 P3 (ix2 r k) = act x g w b s k := by
  rw [pay4_at, h1, h2, h3]
  simp only [h0]
  rfl

/-- A row of the activations in a step's block. -/
theorem act_at (t : Fin cfg0.N) (r : Fin 256) (k : Fin 2048) :
    k0_pay4 (iblk m c 0 t) (iblk m c 1 t) (iblk m c 2 t) (iblk m c 3 t) (ix2 r k)
      = act (m ((c.tc : Thread nD τ).loc main_arg0)) (m ((c.tc : Thread nD τ).loc main_arg1)) (m ((c.tc : Thread nD τ).loc main_arg2))
          ⟨(rowOf t r).val / 4096, by have := (rowOf t r).isLt; omega⟩ ⟨(rowOf t r).val % 4096, by omega⟩ k := by
  have hb : (⟨t.val / 16, by have := steps t; omega⟩ : Fin 4) = ⟨(rowOf t r).val / 4096, by have := (rowOf t r).isLt; omega⟩ :=
    Fin.ext (show t.val / 16 = (t.val * 256 + r.val) / 4096 by have := r.isLt; omega)
  refine act_of (fun k => ?_) (fun k => ?_) (fun k => ?_) (fun k => ?_) k
  · exact (blk0 m c t r k).trans ((congrFun (V_x m c) _).trans (x_at _ _ _))
  · exact (blk1 m c t k).trans ((congrFun (V_g m c) _).trans (g_at _ _))
  · refine (blk2 m c t k).trans ((congrFun (V_mod m c) _).trans ((w_at _ _ _ _).trans ?_))
    rw [hb]
    congr 2
  · refine (blk3 m c t k).trans ((congrFun (V_mod m c) _).trans ((w_at _ _ _ _).trans ?_))
    rw [hb]
    congr 2
    exact Fin.ext (show 0 * 2048 + k.val = k.val by omega)

/-- An entry of a step's product. -/
theorem step_at (t : Fin cfg0.N) (r : Fin 256) (j : Fin 4096) :
    rowDot (k0_pay4 (iblk m c 0 t) (iblk m c 1 t) (iblk m c 2 t) (iblk m c 3 t)) (iblk m c 4 t) (ix2 r j)
      = proj (m ((c.tc : Thread nD τ).loc main_arg0)) (m ((c.tc : Thread nD τ).loc main_arg1)) (m ((c.tc : Thread nD τ).loc main_arg2))
          (m ((c.tc : Thread nD τ).loc main_arg3)) (rowOf t r) j := by
  show (∑ k : Fin 2048, k0_pay4 (iblk m c 0 t) (iblk m c 1 t) (iblk m c 2 t) (iblk m c 3 t) (ix2 r k) * iblk m c 4 t (ix2 k j)) = _
  refine Finset.sum_congr rfl fun k _ => ?_
  exact congrArg₂ (· * ·) (act_at m c t r k) ((blk4 m c t k j).trans ((congrFun (V_w_term m c) _).trans (hostW_at _ _ _)))

/-! ## The arrays -/

theorem flush5 (t : Fin cfg0.N) : (cfg0.win 5).flush t = true := flush0_5 t

theorem flush6 (t : Fin cfg0.N) : (cfg0.win 6).flush t = true := flush0_6 t

theorem final_z (r : Fin 16384) (j : Fin 4096) :
    (dats m 0 c).arrAt 5 cfg0.N (ix2 r j)
      = proj (m ((c.tc : Thread nD τ).loc main_arg0)) (m ((c.tc : Thread nD τ).loc main_arg1)) (m ((c.tc : Thread nD τ).loc main_arg2))
          (m ((c.tc : Thread nD τ).loc main_arg3)) r j := by
  have hr := r.isLt
  let t : Fin cfg0.N := ⟨r.val / 256, (show r.val / 256 < 64 by omega).trans_eq N_0.symm⟩
  let s : Fin 256 := ⟨r.val % 256, by omega⟩
  have hrow : rowOf t s = r := Fin.ext (show r.val / 256 * 256 + r.val % 256 = r.val by omega)
  have hb := congrFun ((Value.blocks5 m c t (flush5 t)).trans (Value.flushed5 m c t)) (ix2 s j)
  have e : ((cfg0.win 5).blk t).view.emb (ix2 s j) = ix2 r j := by
    obtain ⟨h0, h1⟩ := at5 t
    funext i
    match i with
    | ⟨0, _⟩ => exact Fin.ext (show win0_5.index t 0 * 256 + 1 * (r.val % 256) = r.val by rw [h0]; show r.val / 256 * 256 + _ = _; omega)
    | ⟨1, _⟩ => exact Fin.ext (show win0_5.index t 1 * 4096 + 1 * j.val = j.val by rw [h1]; omega)
  have hl : ((cfg0.win 5).blk t).view.read (Elt Ideal) ((dats m 0 c).arrAt 5 cfg0.N) (ix2 s j) = (dats m 0 c).arrAt 5 cfg0.N (ix2 r j) :=
    congrArg ((dats m 0 c).arrAt 5 cfg0.N) e
  rw [← hl, hb]
  show out0_5 (iblk m c 0 t) (iblk m c 1 t) (iblk m c 2 t) (iblk m c 3 t) (iblk m c 4 t) (ix2 s j) = _
  rw [out_z, step_at, hrow]

theorem final_kw (r : Fin 16384) (j : Fin 128) :
    (dats m 0 c).arrAt 6 cfg0.N (ix2 r j)
      = proj (m ((c.tc : Thread nD τ).loc main_arg0)) (m ((c.tc : Thread nD τ).loc main_arg1)) (m ((c.tc : Thread nD τ).loc main_arg2))
          (m ((c.tc : Thread nD τ).loc main_arg3)) r ⟨j.val + 768, by have := j.isLt; omega⟩ := by
  have hr := r.isLt
  let t : Fin cfg0.N := ⟨r.val / 256, (show r.val / 256 < 64 by omega).trans_eq N_0.symm⟩
  let s : Fin 256 := ⟨r.val % 256, by omega⟩
  have hrow : rowOf t s = r := Fin.ext (show r.val / 256 * 256 + r.val % 256 = r.val by omega)
  have hb := congrFun ((Value.blocks6 m c t (flush6 t)).trans (Value.flushed6 m c t)) (ix2 s j)
  have e : ((cfg0.win 6).blk t).view.emb (ix2 s j) = ix2 r j := by
    obtain ⟨h0, h1⟩ := at6 t
    funext i
    match i with
    | ⟨0, _⟩ => exact Fin.ext (show win0_6.index t 0 * 256 + 1 * (r.val % 256) = r.val by rw [h0]; show r.val / 256 * 256 + _ = _; omega)
    | ⟨1, _⟩ => exact Fin.ext (show win0_6.index t 1 * 128 + 1 * j.val = j.val by rw [h1]; omega)
  have hl : ((cfg0.win 6).blk t).view.read (Elt Ideal) ((dats m 0 c).arrAt 6 cfg0.N) (ix2 s j) = (dats m 0 c).arrAt 6 cfg0.N (ix2 r j) :=
    congrArg ((dats m 0 c).arrAt 6 cfg0.N) e
  rw [← hl, hb]
  show out0_6 (iblk m c 0 t) (iblk m c 1 t) (iblk m c 2 t) (iblk m c 3 t) (iblk m c 4 t) (ix2 s j) = _
  rw [out_kw, step_at, hrow]

end Cert.Projection
end
-- ==== Proof.Output.Spec.lean ====
/-
  The output projection: what both programs compute, entry by entry, and the reference's two results read so.
-/
module

public import proofs.«01_k».proof.Proof.Gen.Reference3Ideal.Run
public import Idealize.ShloMosaic.Lib.Pointwise

@[expose] public section

noncomputable section

namespace Cert.Output

open Cert.Reference3Ideal Cert.Reference3Ideal.Gen Idealize.ShloMosaic Idealize.ShloMosaic.TcCoe

/-- One entry of the stream after the mixers: the entry of `x`, plus the third of the six parts of `w` times the row of
    `att` followed by the row of `hm`, times a column of `W`. -/
def mixed (att hm : Vec Ideal S16384x1024 .bf16) (x : Vec Ideal S4x4096x2048 .f32) (w : Vec Ideal S4x12288 .f32)
    (W : Vec Ideal S2048x2048 .f32) (r : Fin 16384) (k : Fin 2048) : EReal :=
  x (ix3 ⟨r.val / 4096, by have := r.isLt; omega⟩ ⟨r.val % 4096, by omega⟩ k)
    + w (ix2 ⟨r.val / 4096, by have := r.isLt; omega⟩ ⟨4096 + k.val, by have := k.isLt; omega⟩)
      * ((∑ j : Fin 1024, att (ix2 r j) * W (ix2 ⟨j.val, by have := j.isLt; omega⟩ k))
        + ∑ j : Fin 1024, hm (ix2 r j) * W (ix2 ⟨1024 + j.val, by have := j.isLt; omega⟩ k))

/-- One entry of a row divided by its root mean square, times the gain, scaled and shifted by the fifth and fourth of the
    six parts of `w`. -/
def normed (y : Fin 2048 → EReal) (g : Vec Ideal S2048 .f32) (w : Vec Ideal S4x12288 .f32) (b : Fin 4) (k : Fin 2048) : EReal :=
  y k * Ideal.rsqrt (Ideal.div (∑ j, y j * y j) (Ideal.ofBits .f32 0x45000000#32) + Ideal.ofBits .f32 0x358637BD#32)
      * g (ix1 k) * (1 + w (ix2 b ⟨8192 + k.val, by have := k.isLt; omega⟩))
    + w (ix2 b ⟨6144 + k.val, by have := k.isLt; omega⟩)

/-! ## The reference -/

/-- The reference's product. -/
def refDot (att hm : Vec Ideal S16384x1024 .bf16) (W : Vec Ideal S2048x2048 .f32) : Vec Ideal S4x4096x2048 .f32 :=
  Host.dotGeneral (F := Ideal) (φ₁ := .f32) (φ₂ := .f32) dot_S4x4096x2048_S2048x2048_S4x4096x2048_2_0_01_1_n_n none
    (concatenate S4x4096x2048 2
      [⟨S4x4096x1024, (shapeCast S4x4096x1024 (extf (F := Ideal) (φ := .bf16) .f32 att bitsLt_bf16_f32) shapeCasts_S16384x1024_S4x4096x1024)⟩,
       ⟨S4x4096x1024, (shapeCast S4x4096x1024 (extf (F := Ideal) (φ := .bf16) .f32 hm bitsLt_bf16_f32) shapeCasts_S16384x1024_S4x4096x1024)⟩]
      concatenates_S4x4096x1024_S4x4096x1024_S4x4096x2048_d2) W

/-- The reference's first result before its last reshape, from the product. -/
def refMixed (Z x : Vec Ideal S4x4096x2048 .f32) (w : Vec Ideal S4x12288 .f32) : Vec Ideal S4x4096x2048 .f32 :=
  addf (F := Ideal) (φ := .f32) x (mulf (broadcastInDim S4x4096x2048 ![0, 1, 2] bcast_S4x1x2048_S4x4096x2048_0_1_2
    (extractStridedSlice S4x1x2048 ![0, 0, 4096] (broadcastInDim S4x1x12288 ![0, 2] bcast_S4x12288_S4x1x12288_0_2 w)
      slices_S4x1x12288_S4x1x2048_0_0_4096)) Z)

/-- The reference's second result before its last reshape, from its first. -/
def refNormed (X : Vec Ideal S4x4096x2048 .f32) (g : Vec Ideal S2048 .f32) (w : Vec Ideal S4x12288 .f32) : Vec Ideal S4x4096x2048 .f32 :=
  addf (F := Ideal) (φ := .f32) (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 8192] (broadcastInDim S4x1x12288 ![0, 2] bcast_S4x12288_S4x1x12288_0_2 w) slices_S4x1x12288_S4x1x2048_0_0_8192)))) (broadcastInDim S4x4096x2048 ![0, 1, 2] bcast_S4x1x2048_S4x4096x2048_0_1_2 (extractStridedSlice S4x1x2048 ![0, 0, 6144] (broadcastInDim S4x1x12288 ![0, 2] bcast_S4x12288_S4x1x12288_0_2 w) slices_S4x1x12288_S4x1x2048_0_0_6144))

theorem refDot_at (att hm : Vec Ideal S16384x1024 .bf16) (W : Vec Ideal S2048x2048 .f32) (r : Fin 16384) (k : Fin 2048) :
    refDot att hm W (ix3 ⟨r.val / 4096, by have := r.isLt; omega⟩ ⟨r.val % 4096, by omega⟩ k)
      = (∑ j : Fin 1024, att (ix2 r j) * W (ix2 ⟨j.val, by have := j.isLt; omega⟩ k))
        + ∑ j : Fin 1024, hm (ix2 r j) * W (ix2 ⟨1024 + j.val, by have := j.isLt; omega⟩ k) := by
  pointwise [refDot]

theorem refMixed_at (Z x : Vec Ideal S4x4096x2048 .f32) (w : Vec Ideal S4x12288 .f32) (b : Fin 4) (s : Fin 4096) (k : Fin 2048) :
    refMixed Z x w (ix3 b s k) = x (ix3 b s k) + w (ix2 b ⟨4096 + k.val, by have := k.isLt; omega⟩) * Z (ix3 b s k) := by
  pointwise [refMixed]

theorem refNormed_at (X : Vec Ideal S4x4096x2048 .f32) (g : Vec Ideal S2048 .f32) (w : Vec Ideal S4x12288 .f32) (b : Fin 4) (s : Fin 4096) (k : Fin 2048) :
    refNormed X g w (ix3 b s k) = normed (fun j => X (ix3 b s j)) g w b k := by
  pointwise [refNormed]
  rfl

theorem flat_at (X : Vec Ideal S4x4096x2048 .f32) (r : Fin 16384) (k : Fin 2048) :
    shapeCast S16384x2048 X shapeCasts_S4x4096x2048_S16384x2048 (ix2 r k)
      = X (ix3 ⟨r.val / 4096, by have := r.isLt; omega⟩ ⟨r.val % 4096, by omega⟩ k) := by
  pointwise

/-- The reference's first result. -/
theorem ref_mixed (att hm : Vec Ideal S16384x1024 .bf16) (x : Vec Ideal S4x4096x2048 .f32) (w : Vec Ideal S4x12288 .f32)
    (W : Vec Ideal S2048x2048 .f32) (r : Fin 16384) (k : Fin 2048) :
    shapeCast S16384x2048 (refMixed (refDot att hm W) x w) shapeCasts_S4x4096x2048_S16384x2048 (ix2 r k) = mixed att hm x w W r k := by
  rw [flat_at, refMixed_at, refDot_at]
  rfl

/-- The reference's second result. -/
theorem ref_normed (att hm : Vec Ideal S16384x1024 .bf16) (x : Vec Ideal S4x4096x2048 .f32) (w : Vec Ideal S4x12288 .f32)
    (g : Vec Ideal S2048 .f32) (W : Vec Ideal S2048x2048 .f32) (r : Fin 16384) (k : Fin 2048) :
    shapeCast S16384x2048 (refNormed (refMixed (refDot att hm W) x w) g w) shapeCasts_S4x4096x2048_S16384x2048 (ix2 r k)
      = normed (mixed att hm x w W r) g w ⟨r.val / 4096, by have := r.isLt; omega⟩ k := by
  rw [flat_at, refNormed_at]
  congr 1
  funext j
  rw [refMixed_at, refDot_at]
  rfl

end Cert.Output
end
-- ==== Proof.Output.Block.lean ====
/-
  The output projection: what one step of the grid writes, and what the host hands over.
-/
module

public import proofs.«01_k».proof.Proof.Gen.Kernel3Ideal.Value
public import proofs.«01_k».proof.Proof.Output.Spec
public import Idealize.ShloMosaic.Lib.StableHlo.RunRead
public import Idealize.ShloMosaic.Lib.Pointwise

@[expose] public section

set_option maxRecDepth 16384

noncomputable section

namespace Cert.Output

open Cert.Kernel3Ideal Cert.Kernel3Ideal.Gen Idealize.ShloMosaic Idealize.ShloMosaic.TcCoe Idealize.ShloMosaic.Tactic

/-! ## The body -/

/-- The stream after the mixers, of one step's blocks. -/
def blkMixed (x0 x1 : Vec Ideal S256x1024 .bf16) (x2 : Vec Ideal S256x2048 .f32) (x3 : Vec Ideal S1x1x1x2048 .f32)
    (W : Vec Ideal S2048x2048 .bf16) : Vec Ideal S256x2048 .f32 :=
  k0_pay3 x0 (View.ld W (Rect.unit (s := S2048x2048) ![0, 0] S1024x2048.size inb_S2048x2048_S1024x2048_0_0)) x1
    (View.ld W (Rect.unit (s := S2048x2048) ![1024, 0] S1024x2048.size inb_S2048x2048_S1024x2048_1024_0)) x2 x3

/-- The second result's block, of one step's blocks. -/
def blkNormed (x0 x1 : Vec Ideal S256x1024 .bf16) (x2 : Vec Ideal S256x2048 .f32) (x3 : Vec Ideal S1x1x1x2048 .f32)
    (x4 : Vec Ideal S1x2048 .f32) (x5 x6 : Vec Ideal S1x1x1x2048 .f32) (W : Vec Ideal S2048x2048 .bf16) : Vec Ideal S256x2048 .f32 :=
  k0_pay6 (k0_pay4 x0 (View.ld W (Rect.unit (s := S2048x2048) ![0, 0] S1024x2048.size inb_S2048x2048_S1024x2048_0_0)) x1
    (View.ld W (Rect.unit (s := S2048x2048) ![1024, 0] S1024x2048.size inb_S2048x2048_S1024x2048_1024_0)) x2 x3) (k0_pay5 x4) x5 x6

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- What a step leaves in its block of the first result, at the first step. -/
theorem out_A_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S2048x2048 .bf16) (harg8 : arg8.IsWhole) (arg9 : Memref sig .tc .vmem S2048x256 .bf16) (harg9 : arg9.IsWhole) (arg10 : Memref sig .tc .vmem S32x1 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S1x8x256 .i32) (harg13 : arg13.IsWhole) (arg14 : Memref sig .tc .vmem S1x8x256 .f32) (harg14 : arg14.IsWhole) (arg15 : Memref sig .tc .vmem S32x128 .f32) (harg15 : arg15.IsWhole) (arg16 : Memref sig .tc .vmem S32x1 .f32) (harg16 : arg16.IsWhole) (hc0 : cond0_0 i)
    (x0 : Vec Ideal S256x1024 .bf16) (x1 : Vec Ideal S256x1024 .bf16) (x2 : Vec Ideal S256x2048 .f32) (x3 : Vec Ideal S1x1x1x2048 .f32) (x4 : Vec Ideal S1x2048 .f32) (x5 : Vec Ideal S1x1x1x2048 .f32) (x6 : Vec Ideal S1x1x1x2048 .f32) (x7 : Vec Ideal S2048x2048 .bf16) (x8 : Vec Ideal S2048x256 .bf16) (x9 : Vec Ideal S32x1 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = blkMixed x0 x1 x2 x3 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  try sl_unfold_words
  rw [View.canon_unit_zero zeros2]
  simp only [View.readAt_eq_ld, harg1.read_unread, harg2.read_unread, harg3.read_unread, harg4.read_unread, harg8.read_unread,
    View.ld_unit_zero (S := S256x1024) zeros2, View.ld_unit_zero (S := S256x2048) zeros2, View.ld_unit_zero (S := S1x1x1x2048) zeros4]
  rfl

/-- What a step leaves in its block of the second result, at the first step. -/
theorem out_A_11 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S2048x2048 .bf16) (harg8 : arg8.IsWhole) (arg9 : Memref sig .tc .vmem S2048x256 .bf16) (harg9 : arg9.IsWhole) (arg10 : Memref sig .tc .vmem S32x1 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S1x8x256 .i32) (harg13 : arg13.IsWhole) (arg14 : Memref sig .tc .vmem S1x8x256 .f32) (harg14 : arg14.IsWhole) (arg15 : Memref sig .tc .vmem S32x128 .f32) (harg15 : arg15.IsWhole) (arg16 : Memref sig .tc .vmem S32x1 .f32) (harg16 : arg16.IsWhole) (hc0 : cond0_0 i)
    (x0 : Vec Ideal S256x1024 .bf16) (x1 : Vec Ideal S256x1024 .bf16) (x2 : Vec Ideal S256x2048 .f32) (x3 : Vec Ideal S1x1x1x2048 .f32) (x4 : Vec Ideal S1x2048 .f32) (x5 : Vec Ideal S1x1x1x2048 .f32) (x6 : Vec Ideal S1x1x1x2048 .f32) (x7 : Vec Ideal S2048x2048 .bf16) (x8 : Vec Ideal S2048x256 .bf16) (x9 : Vec Ideal S32x1 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = blkNormed x0 x1 x2 x3 x4 x5 x6 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  try sl_unfold_words
  rw [View.canon_unit_zero zeros2]
  simp only [View.readAt_eq_ld, harg1.read_unread, harg2.read_unread, harg3.read_unread, harg4.read_unread, harg8.read_unread, harg5.read_unread, harg6.read_unread, harg7.read_unread,
    View.ld_unit_zero (S := S256x1024) zeros2, View.ld_unit_zero (S := S256x2048) zeros2, View.ld_unit_zero (S := S1x1x1x2048) zeros4, View.ld_unit_zero (S := S1x2048) zeros2]
  rfl

/-- What a step leaves in its block of the first result, at any later step. -/
theorem out_B_10 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S2048x2048 .bf16) (harg8 : arg8.IsWhole) (arg9 : Memref sig .tc .vmem S2048x256 .bf16) (harg9 : arg9.IsWhole) (arg10 : Memref sig .tc .vmem S32x1 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S1x8x256 .i32) (harg13 : arg13.IsWhole) (arg14 : Memref sig .tc .vmem S1x8x256 .f32) (harg14 : arg14.IsWhole) (arg15 : Memref sig .tc .vmem S32x128 .f32) (harg15 : arg15.IsWhole) (arg16 : Memref sig .tc .vmem S32x1 .f32) (harg16 : arg16.IsWhole) (hc0 : ¬cond0_0 i)
    (x0 : Vec Ideal S256x1024 .bf16) (x1 : Vec Ideal S256x1024 .bf16) (x2 : Vec Ideal S256x2048 .f32) (x3 : Vec Ideal S1x1x1x2048 .f32) (x4 : Vec Ideal S1x2048 .f32) (x5 : Vec Ideal S1x1x1x2048 .f32) (x6 : Vec Ideal S1x1x1x2048 .f32) (x7 : Vec Ideal S2048x2048 .bf16) (x8 : Vec Ideal S2048x256 .bf16) (x9 : Vec Ideal S32x1 .f32) (xs0 : Vec Ideal S32x1 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 = blkMixed x0 x1 x2 x3 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0)]
  unfold kernelRun0_B
  dsimp only
  try sl_unfold_words
  rw [View.canon_unit_zero zeros2]
  simp only [View.readAt_eq_ld, harg1.read_unread, harg2.read_unread, harg3.read_unread, harg4.read_unread, harg8.read_unread,
    View.ld_unit_zero (S := S256x1024) zeros2, View.ld_unit_zero (S := S256x2048) zeros2, View.ld_unit_zero (S := S1x1x1x2048) zeros4]
  rfl

/-- What a step leaves in its block of the second result, at any later step. -/
theorem out_B_11 (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S2048x2048 .bf16) (harg8 : arg8.IsWhole) (arg9 : Memref sig .tc .vmem S2048x256 .bf16) (harg9 : arg9.IsWhole) (arg10 : Memref sig .tc .vmem S32x1 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S1x8x256 .i32) (harg13 : arg13.IsWhole) (arg14 : Memref sig .tc .vmem S1x8x256 .f32) (harg14 : arg14.IsWhole) (arg15 : Memref sig .tc .vmem S32x128 .f32) (harg15 : arg15.IsWhole) (arg16 : Memref sig .tc .vmem S32x1 .f32) (harg16 : arg16.IsWhole) (hc0 : ¬cond0_0 i)
    (x0 : Vec Ideal S256x1024 .bf16) (x1 : Vec Ideal S256x1024 .bf16) (x2 : Vec Ideal S256x2048 .f32) (x3 : Vec Ideal S1x1x1x2048 .f32) (x4 : Vec Ideal S1x2048 .f32) (x5 : Vec Ideal S1x1x1x2048 .f32) (x6 : Vec Ideal S1x1x1x2048 .f32) (x7 : Vec Ideal S2048x2048 .bf16) (x8 : Vec Ideal S2048x256 .bf16) (x9 : Vec Ideal S32x1 .f32) (xs0 : Vec Ideal S32x1 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 = blkNormed x0 x1 x2 x3 x4 x5 x6 x7 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0)]
  unfold kernelRun0_B
  dsimp only
  try sl_unfold_words
  rw [View.canon_unit_zero zeros2]
  simp only [View.readAt_eq_ld, harg1.read_unread, harg2.read_unread, harg3.read_unread, harg4.read_unread, harg8.read_unread, harg5.read_unread, harg6.read_unread, harg7.read_unread,
    View.ld_unit_zero (S := S256x1024) zeros2, View.ld_unit_zero (S := S256x2048) zeros2, View.ld_unit_zero (S := S1x1x1x2048) zeros4, View.ld_unit_zero (S := S1x2048) zeros2]
  rfl

theorem blkMixed_at (x0 x1 : Vec Ideal S256x1024 .bf16) (x2 : Vec Ideal S256x2048 .f32) (x3 : Vec Ideal S1x1x1x2048 .f32)
    (W : Vec Ideal S2048x2048 .bf16) (r : Fin 256) (k : Fin 2048) :
    blkMixed x0 x1 x2 x3 W (ix2 r k)
      = x2 (ix2 r k) + x3 (ix4 0 0 0 k)
        * ((∑ j : Fin 1024, x0 (ix2 r j) * W (ix2 ⟨j.val, by have := j.isLt; omega⟩ k))
          + ∑ j : Fin 1024, x1 (ix2 r j) * W (ix2 ⟨1024 + j.val, by have := j.isLt; omega⟩ k)) := by
  pointwise [blkMixed, k0_pay3]

theorem blkNormed_at (x0 x1 : Vec Ideal S256x1024 .bf16) (x2 : Vec Ideal S256x2048 .f32) (x3 : Vec Ideal S1x1x1x2048 .f32)
    (x4 : Vec Ideal S1x2048 .f32) (x5 x6 : Vec Ideal S1x1x1x2048 .f32) (W : Vec Ideal S2048x2048 .bf16) (r : Fin 256) (k : Fin 2048) :
    blkNormed x0 x1 x2 x3 x4 x5 x6 W (ix2 r k)
      = blkMixed x0 x1 x2 x3 W (ix2 r k)
          * Ideal.rsqrt (Ideal.div (∑ j, blkMixed x0 x1 x2 x3 W (ix2 r j) * blkMixed x0 x1 x2 x3 W (ix2 r j)) (Ideal.ofBits .f32 0x45000000#32)
            + Ideal.ofBits .f32 0x358637BD#32)
          * x4 (ix2 0 k) * (1 + x5 (ix4 0 0 0 k)) + x6 (ix4 0 0 0 k) := by
  unfold blkNormed k0_pay4
  have e : k0_pay3 x0 (View.ld W (Rect.unit (s := S2048x2048) ![0, 0] S1024x2048.size inb_S2048x2048_S1024x2048_0_0)) x1
    (View.ld W (Rect.unit (s := S2048x2048) ![1024, 0] S1024x2048.size inb_S2048x2048_S1024x2048_1024_0)) x2 x3 = blkMixed x0 x1 x2 x3 W := rfl
  rw [e]
  generalize blkMixed x0 x1 x2 x3 W = Y
  pointwise [k0_pay5, k0_pay6]

/-! ## The blocks -/

variable (m : (ℓ : Loc nD τ sig) → Buf (Elt Ideal) ℓ) (c : Dev nD)

theorem V_x : V m c main_v0 = shapeCast S16384x2048 (m ((c.tc : Thread nD τ).loc main_arg2)) shapeCasts_S4x4096x2048_S16384x2048 := by
  dsimp only [V, hostOps0, hostOps0_1, hostOps0_2, List.flatten_cons, List.flatten_nil, List.append_nil, List.cons_append, List.nil_append]
  after_reads_simp
  rfl

theorem V_mod : V m c main_v1 = shapeCast S4x6x1x2048 (m ((c.tc : Thread nD τ).loc main_arg3)) shapeCasts_S4x12288_S4x6x1x2048 := by
  dsimp only [V, hostOps0, hostOps0_1, hostOps0_2, List.flatten_cons, List.flatten_nil, List.append_nil, List.cons_append, List.nil_append]
  after_reads_simp
  rfl

theorem V_w : V m c main_v2 = truncf (F := Ideal) (φ := .f32) .bf16 (m ((c.tc : Thread nD τ).loc main_arg5)) bitsLt_bf16_f32 := by
  dsimp only [V, hostOps0, hostOps0_1, hostOps0_2, List.flatten_cons, List.flatten_nil, List.append_nil, List.cons_append, List.nil_append]
  after_reads_simp

theorem V_g : V m c main_v9 = shapeCast S1x2048 (m ((c.tc : Thread nD τ).loc main_arg4)) shapeCasts_S2048_S1x2048 := by
  dsimp only [V, hostOps0, hostOps0_1, hostOps0_2, List.flatten_cons, List.flatten_nil, List.append_nil, List.cons_append, List.nil_append]
  after_reads_simp
  rfl

end Cert.Output
end
-- ==== Proof.Output.Run.lean ====
/-
  The output projection: the two arrays after the last step of the grid, entry by entry.
-/
module

public import proofs.«01_k».proof.Proof.Output.Block

@[expose] public section

noncomputable section

namespace Cert.Output

open Cert.Kernel3Ideal Cert.Kernel3Ideal.Gen Idealize.ShloMosaic Idealize.ShloMosaic.TcCoe

variable (m : (ℓ : Loc nD τ sig) → Buf (Elt Ideal) ℓ) (c : Dev nD)

/-! ## The blocks a step reads -/

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = t.val ∧ win0_1.index t 1 = 0 :=
  (by decide +kernel : ∀ t : Fin grid0.N, win0_1.index t 0 = t.val ∧ win0_1.index t 1 = 0)

theorem at2 : ∀ t : Fin cfg0.N, win0_2.index t 0 = t.val ∧ win0_2.index t 1 = 0 :=
  (by decide +kernel : ∀ t : Fin grid0.N, win0_2.index t 0 = t.val ∧ win0_2.index t 1 = 0)

theorem at3 : ∀ t : Fin cfg0.N, win0_3.index t 0 = t.val / 16 ∧ win0_3.index t 1 = 2 ∧ win0_3.index t 2 = 0 ∧ win0_3.index t 3 = 0 :=
  (by decide +kernel : ∀ t : Fin grid0.N, win0_3.index t 0 = t.val / 16 ∧ win0_3.index t 1 = 2 ∧ win0_3.index t 2 = 0 ∧ win0_3.index t 3 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = t.val / 16 ∧ win0_5.index t 1 = 4 ∧ win0_5.index t 2 = 0 ∧ win0_5.index t 3 = 0 :=
  (by decide +kernel : ∀ t : Fin grid0.N, win0_5.index t 0 = t.val / 16 ∧ win0_5.index t 1 = 4 ∧ win0_5.index t 2 = 0 ∧ win0_5.index t 3 = 0)

theorem at6 : ∀ t : Fin cfg0.N, win0_6.index t 0 = t.val / 16 ∧ win0_6.index t 1 = 3 ∧ win0_6.index t 2 = 0 ∧ win0_6.index t 3 = 0 :=
  (by decide +kernel : ∀ t : Fin grid0.N, win0_6.index t 0 = t.val / 16 ∧ win0_6.index t 1 = 3 ∧ win0_6.index t 2 = 0 ∧ win0_6.index t 3 = 0)

theorem at7 : ∀ t : Fin cfg0.N, win0_7.index t 0 = 0 ∧ win0_7.index t 1 = 0 :=
  (by decide +kernel : ∀ t : Fin grid0.N, win0_7.index t 0 = 0 ∧ win0_7.index t 1 = 0)

theorem at10 : ∀ t : Fin cfg0.N, win0_10.index t 0 = t.val ∧ win0_10.index t 1 = 0 :=
  (by decide +kernel : ∀ t : Fin grid0.N, win0_10.index t 0 = t.val ∧ win0_10.index t 1 = 0)

theorem at11 : ∀ t : Fin cfg0.N, win0_11.index t 0 = t.val ∧ win0_11.index t 1 = 0 :=
  (by decide +kernel : ∀ t : Fin grid0.N, win0_11.index t 0 = t.val ∧ win0_11.index t 1 = 0)

theorem steps (t : Fin cfg0.N) : t.val < 64 := t.isLt.trans_eq N_0

/-- The array's row under row `r` of the block of step `t`. -/
def rowOf (t : Fin cfg0.N) (r : Fin 256) : Fin 16384 := ⟨t.val * 256 + r.val, by have := steps t; have := r.isLt; omega⟩

theorem blk0 (t : Fin cfg0.N) (r : Fin 256) (k : Fin 1024) : iblk m c 0 t (ix2 r k) = V m c main_arg0 (ix2 (rowOf t r) k) := by
  show V m c main_arg0 (((cfg0.win 0).blk t).view.emb (ix2 r k)) = _
  congr 1
  obtain ⟨h0, h1⟩ := at0 t
  funext i
  match i with
  | ⟨0, _⟩ => exact Fin.ext (show win0_0.index t 0 * 256 + 1 * r.val = t.val * 256 + r.val by rw [h0]; omega)
  | ⟨1, _⟩ => exact Fin.ext (show win0_0.index t 1 * 1024 + 1 * k.val = k.val by rw [h1]; omega)

theorem blk1 (t : Fin cfg0.N) (r : Fin 256) (k : Fin 1024) : iblk m c 1 t (ix2 r k) = V m c main_arg1 (ix2 (rowOf t r) k) := by
  show V m c main_arg1 (((cfg0.win 1).blk t).view.emb (ix2 r k)) = _
  congr 1
  obtain ⟨h0, h1⟩ := at1 t
  funext i
  match i with
  | ⟨0, _⟩ => exact Fin.ext (show win0_1.index t 0 * 256 + 1 * r.val = t.val * 256 + r.val by rw [h0]; omega)
  | ⟨1, _⟩ => exact Fin.ext (show win0_1.index t 1 * 1024 + 1 * k.val = k.val by rw [h1]; omega)

theorem blk2 (t : Fin cfg0.N) (r : Fin 256) (k : Fin 2048) : iblk m c 2 t (ix2 r k) = V m c main_v0 (ix2 (rowOf t r) k) := by
  show V m c main_v0 (((cfg0.win 2).blk t).view.emb (ix2 r k)) = _
  congr 1
  obtain ⟨h0, h1⟩ := at2 t
  funext i
  match i with
  | ⟨0, _⟩ => exact Fin.ext (show win0_2.index t 0 * 256 + 1 * r.val = t.val * 256 + r.val by rw [h0]; omega)
  | ⟨1, _⟩ => exact Fin.ext (show win0_2.index t 1 * 2048 + 1 * k.val = k.val by rw [h1]; omega)

theorem blk3 (t : Fin cfg0.N) (k : Fin 2048) :
    iblk m c 3 t (ix4 0 0 0 k) = V m c main_v1 (ix4 ⟨t.val / 16, by have := steps t; omega⟩ 2 0 k) := by
  show V m c main_v1 (((cfg0.win 3).blk t).view.emb (ix4 0 0 0 k)) = _
  congr 1
  obtain ⟨h0, h1, h2, h3⟩ := at3 t
  funext i
  match i with
  | ⟨0, _⟩ => exact Fin.ext (show win0_3.index t 0 * 1 + 1 * 0 = t.val / 16 by rw [h0]; omega)
  | ⟨1, _⟩ => exact Fin.ext (show win0_3.index t 1 * 1 + 1 * 0 = 2 by rw [h1])
  | ⟨2, _⟩ => exact Fin.ext (show win0_3.index t 2 * 1 + 1 * 0 = 0 by rw [h2])
  | ⟨3, _⟩ => exact Fin.ext (show win0_3.index t 3 * 2048 + 1 * k.val = k.val by rw [h3]; omega)

theorem blk5 (t : Fin cfg0.N) (k : Fin 2048) :
    iblk m c 5 t (ix4 0 0 0 k) = V m c main_v1 (ix4 ⟨t.val / 16, by have := steps t; omega⟩ 4 0 k) := by
  show V m c main_v1 (((cfg0.win 5).blk t).view.emb (ix4 0 0 0 k)) = _
  congr 1
  obtain ⟨h0, h1, h2, h3⟩ := at5 t
  funext i
  match i with
  | ⟨0, _⟩ => exact Fin.ext (show win0_5.index t 0 * 1 + 1 * 0 = t.val / 16 by rw [h0]; omega)
  | ⟨1, _⟩ => exact Fin.ext (show win0_5.index t 1 * 1 + 1 * 0 = 4 by rw [h1])
  | ⟨2, _⟩ => exact Fin.ext (show win0_5.index t 2 * 1 + 1 * 0 = 0 by rw [h2])
  | ⟨3, _⟩ => exact Fin.ext (show win0_5.index t 3 * 2048 + 1 * k.val = k.val by rw [h3]; omega)

theorem blk6 (t : Fin cfg0.N) (k : Fin 2048) :
    iblk m c 6 t (ix4 0 0 0 k) = V m c main_v1 (ix4 ⟨t.val / 16, by have := steps t; omega⟩ 3 0 k) := by
  show V m c main_v1 (((cfg0.win 6).blk t).view.emb (ix4 0 0 0 k)) = _
  congr 1
  obtain ⟨h0, h1, h2, h3⟩ := at6 t
  funext i
  match i with
  | ⟨0, _⟩ => exact Fin.ext (show win0_6.index t 0 * 1 + 1 * 0 = t.val / 16 by rw [h0]; omega)
  | ⟨1, _⟩ => exact Fin.ext (show win0_6.index t 1 * 1 + 1 * 0 = 3 by rw [h1])
  | ⟨2, _⟩ => exact Fin.ext (show win0_6.index t 2 * 1 + 1 * 0 = 0 by rw [h2])
  | ⟨3, _⟩ => exact Fin.ext (show win0_6.index t 3 * 2048 + 1 * k.val = k.val by rw [h3]; omega)

theorem blk4 (t : Fin cfg0.N) (k : Fin 2048) : iblk m c 4 t (ix2 0 k) = V m c main_v9 (ix2 0 k) := by
  show V m c main_v9 (((cfg0.win 4).blk t).view.emb (ix2 0 k)) = _
  congr 1
  obtain ⟨h0, h1⟩ := at4 t
  funext i
  match i with
  | ⟨0, _⟩ => exact Fin.ext (show win0_4.index t 0 * 1 + 1 * 0 = 0 by rw [h0])
  | ⟨1, _⟩ => exact Fin.ext (show win0_4.index t 1 * 2048 + 1 * k.val = k.val by rw [h1]; omega)

theorem blk7 (t : Fin cfg0.N) (k j : Fin 2048) : iblk m c 7 t (ix2 k j) = V m c main_v2 (ix2 k j) := by
  show V m c main_v2 (((cfg0.win 7).blk t).view.emb (ix2 k j)) = _
  congr 1
  obtain ⟨h0, h1⟩ := at7 t
  funext i
  match i with
  | ⟨0, _⟩ => exact Fin.ext (show win0_7.index t 0 * 2048 + 1 * k.val = k.val by rw [h0]; omega)
  | ⟨1, _⟩ => exact Fin.ext (show win0_7.index t 1 * 2048 + 1 * j.val = j.val by rw [h1]; omega)

/-! ## What the host hands over, entry by entry -/

theorem x_at (x : Vec Ideal S4x4096x2048 .f32) (r : Fin 16384) (k : Fin 2048) :
    shapeCast S16384x2048 x shapeCasts_S4x4096x2048_S16384x2048 (ix2 r k) = x (ix3 ⟨r.val / 4096, by have := r.isLt; omega⟩ ⟨r.val % 4096, by omega⟩ k) := by
  pointwise

theorem g_at (g : Vec Ideal S2048 .f32) (k : Fin 2048) : shapeCast S1x2048 g shapeCasts_S2048_S1x2048 (ix2 0 k) = g (ix1 k) := by
  pointwise

theorem w_at (w : Vec Ideal S4x12288 .f32) (b : Fin 4) (p : Fin 6) (k : Fin 2048) :
    shapeCast S4x6x1x2048 w shapeCasts_S4x12288_S4x6x1x2048 (ix4 b p 0 k) = w (ix2 b ⟨p.val * 2048 + k.val, by have := p.isLt; have := k.isLt; omega⟩) := by
  pointwise

/-! ## One step -/

/-- A row of the first result, of blocks known entry by entry. -/
theorem mixed_of {x0 x1 : Vec Ideal S256x1024 .bf16} {x2 : Vec Ideal S256x2048 .f32} {x3 : Vec Ideal S1x1x1x2048 .f32} {B : Vec Ideal S2048x2048 .bf16}
    {att hm : Vec Ideal S16384x1024 .bf16} {x : Vec Ideal S4x4096x2048 .f32} {w : Vec Ideal S4x12288 .f32} {W : Vec Ideal S2048x2048 .f32}
    {r : Fin 256} {q : Fin 16384} (h0 : ∀ j, x0 (ix2 r j) = att (ix2 q j)) (h1 : ∀ j, x1 (ix2 r j) = hm (ix2 q j))
    (h2 : ∀ k, x2 (ix2 r k) = x (ix3 ⟨q.val / 4096, by have := q.isLt; omega⟩ ⟨q.val % 4096, by omega⟩ k))
    (h3 : ∀ k : Fin 2048, x3 (ix4 0 0 0 k) = w (ix2 ⟨q.val / 4096, by have := q.isLt; omega⟩ ⟨4096 + k.val, by have := k.isLt; omega⟩))
    (h7 : ∀ j k, B (ix2 j k) = W (ix2 j k)) (k : Fin 2048) :
    blkMixed x0 x1 x2 x3 B (ix2 r k) = mixed att hm x w W q k := by
  rw [blkMixed_at, h2, h3]
  simp only [h0, h1, h7]
  rfl

/-- A row of the second result, of blocks known entry by entry. -/
theorem normed_of {x0 x1 : Vec Ideal S256x1024 .bf16} {x2 : Vec Ideal S256x2048 .f32} {x3 : Vec Ideal S1x1x1x2048 .f32} {x4 : Vec Ideal S1x2048 .f32}
    {x5 x6 : Vec Ideal S1x1x1x2048 .f32} {B : Vec Ideal S2048x2048 .bf16} {g : Vec Ideal S2048 .f32} {w : Vec Ideal S4x12288 .f32}
    {b : Fin 4} {r : Fin 256} {y : Fin 2048 → EReal} (hy : ∀ k, blkMixed x0 x1 x2 x3 B (ix2 r k) = y k)
    (h4 : ∀ k, x4 (ix2 0 k) = g (ix1 k))
    (h5 : ∀ k : Fin 2048, x5 (ix4 0 0 0 k) = w (ix2 b ⟨8192 + k.val, by have := k.isLt; omega⟩))
    (h6 : ∀ k : Fin 2048, x6 (ix4 0 0 0 k) = w (ix2 b ⟨6144 + k.val, by have := k.isLt; omega⟩)) (k : Fin 2048) :
    blkNormed x0 x1 x2 x3 x4 x5 x6 B (ix2 r k) = normed y g w b k := by
  rw [blkNormed_at, h4, h5, h6]
  simp only [hy]
  rfl

theorem batch (t : Fin cfg0.N) (r : Fin 256) :
    (⟨t.val / 16, by have := steps t; omega⟩ : Fin 4) = ⟨(rowOf t r).val / 4096, by have := (rowOf t r).isLt; omega⟩ :=
  Fin.ext (show t.val / 16 = (t.val * 256 + r.val) / 4096 by have := r.isLt; omega)

/-- An entry of a step's first result. -/
theorem mixed_step (t : Fin cfg0.N) (r : Fin 256) (k : Fin 2048) :
    blkMixed (iblk m c 0 t) (iblk m c 1 t) (iblk m c 2 t) (iblk m c 3 t) (iblk m c 7 t) (ix2 r k)
      = mixed (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg5)) (rowOf t r) k := by
  refine mixed_of (fun j => ?_) (fun j => ?_) (fun k => ?_) (fun k => ?_) (fun j k => ?_) k
  · exact (blk0 m c t r j).trans (congrFun (V_main_arg0 m c) _)
  · exact (blk1 m c t r j).trans (congrFun (V_main_arg1 m c) _)
  · exact (blk2 m c t r k).trans ((congrFun (V_x m c) _).trans (x_at _ _ _))
  · refine (blk3 m c t k).trans ((congrFun (V_mod m c) _).trans ((w_at _ _ _ _).trans ?_))
    rw [batch t r]
    congr 2
  · exact (blk7 m c t j k).trans (congrFun (V_w m c) _)

/-- An entry of a step's second result. -/
theorem normed_step (t : Fin cfg0.N) (r : Fin 256) (k : Fin 2048) :
    blkNormed (iblk m c 0 t) (iblk m c 1 t) (iblk m c 2 t) (iblk m c 3 t) (iblk m c 4 t) (iblk m c 5 t) (iblk m c 6 t) (iblk m c 7 t) (ix2 r k)
      = normed (mixed (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg5)) (rowOf t r))
          (m ((c.tc : Thread nD τ).loc main_arg4)) (m ((c.tc : Thread nD τ).loc main_arg3)) ⟨(rowOf t r).val / 4096, by have := (rowOf t r).isLt; omega⟩ k := by
  refine normed_of (fun k => mixed_step m c t r k) (fun k => ?_) (fun k => ?_) (fun k => ?_) k
  · exact (blk4 m c t k).trans ((congrFun (V_g m c) _).trans (g_at _ _))
  · refine (blk5 m c t k).trans ((congrFun (V_mod m c) _).trans ((w_at _ _ _ _).trans ?_))
    rw [batch t r]
    congr 2
  · refine (blk6 m c t k).trans ((congrFun (V_mod m c) _).trans ((w_at _ _ _ _).trans ?_))
    rw [batch t r]
    congr 2

/-! ## The arrays -/

theorem flushed_mixed (t : Fin cfg0.N) (y : S256x2048.Idx) :
    (dats m 0 c).flushed 10 t y = blkMixed (iblk m c 0 t) (iblk m c 1 t) (iblk m c 2 t) (iblk m c 3 t) (iblk m c 7 t) y := by
  by_cases h : t.val % 64 = 0
  · refine (congrFun (Value.flushed10_A m c t h) y).trans ?_
    exact congrFun (out_A_10 ..) y
  · refine (congrFun (Value.flushed10_B m c t h) y).trans ?_
    exact congrFun (out_B_10 ..) y

theorem final_mixed (r : Fin 16384) (j : Fin 2048) :
    (dats m 0 c).arrAt 10 cfg0.N (ix2 r j)
      = mixed (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg5)) r j := by
  have hr := r.isLt
  let t : Fin cfg0.N := ⟨r.val / 256, (show r.val / 256 < 64 by omega).trans_eq N_0.symm⟩
  let s : Fin 256 := ⟨r.val % 256, by omega⟩
  have hrow : rowOf t s = r := Fin.ext (show r.val / 256 * 256 + r.val % 256 = r.val by omega)
  have hb := congrFun (Value.blocks10 m c t (flush0_10 t)) (ix2 s j)
  have e : ((cfg0.win 10).blk t).view.emb (ix2 s j) = ix2 r j := by
    obtain ⟨h0, h1⟩ := at10 t
    funext i
    match i with
    | ⟨0, _⟩ => exact Fin.ext (show win0_10.index t 0 * 256 + 1 * (r.val % 256) = r.val by rw [h0]; show r.val / 256 * 256 + _ = _; omega)
    | ⟨1, _⟩ => exact Fin.ext (show win0_10.index t 1 * 2048 + 1 * j.val = j.val by rw [h1]; omega)
  have hl : ((cfg0.win 10).blk t).view.read (Elt Ideal) ((dats m 0 c).arrAt 10 cfg0.N) (ix2 s j) = (dats m 0 c).arrAt 10 cfg0.N (ix2 r j) :=
    congrArg ((dats m 0 c).arrAt 10 cfg0.N) e
  refine hl.symm.trans (hb.trans ((flushed_mixed m c t (ix2 s j)).trans ((mixed_step m c t s j).trans ?_)))
  simp only [hrow]

theorem flushed_normed (t : Fin cfg0.N) (y : S256x2048.Idx) :
    (dats m 0 c).flushed 11 t y = blkNormed (iblk m c 0 t) (iblk m c 1 t) (iblk m c 2 t) (iblk m c 3 t) (iblk m c 4 t) (iblk m c 5 t) (iblk m c 6 t) (iblk m c 7 t) y := by
  by_cases h : t.val % 64 = 0
  · refine (congrFun (Value.flushed11_A m c t h) y).trans ?_
    exact congrFun (out_A_11 ..) y
  · refine (congrFun (Value.flushed11_B m c t h) y).trans ?_
    exact congrFun (out_B_11 ..) y

theorem final_normed (r : Fin 16384) (j : Fin 2048) :
    (dats m 0 c).arrAt 11 cfg0.N (ix2 r j)
      = normed (mixed (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg5)) r)
          (m ((c.tc : Thread nD τ).loc main_arg4)) (m ((c.tc : Thread nD τ).loc main_arg3)) ⟨r.val / 4096, by have := r.isLt; omega⟩ j := by
  have hr := r.isLt
  let t : Fin cfg0.N := ⟨r.val / 256, (show r.val / 256 < 64 by omega).trans_eq N_0.symm⟩
  let s : Fin 256 := ⟨r.val % 256, by omega⟩
  have hrow : rowOf t s = r := Fin.ext (show r.val / 256 * 256 + r.val % 256 = r.val by omega)
  have hb := congrFun (Value.blocks11 m c t (flush0_11 t)) (ix2 s j)
  have e : ((cfg0.win 11).blk t).view.emb (ix2 s j) = ix2 r j := by
    obtain ⟨h0, h1⟩ := at11 t
    funext i
    match i with
    | ⟨0, _⟩ => exact Fin.ext (show win0_11.index t 0 * 256 + 1 * (r.val % 256) = r.val by rw [h0]; show r.val / 256 * 256 + _ = _; omega)
    | ⟨1, _⟩ => exact Fin.ext (show win0_11.index t 1 * 2048 + 1 * j.val = j.val by rw [h1]; omega)
  have hl : ((cfg0.win 11).blk t).view.read (Elt Ideal) ((dats m 0 c).arrAt 11 cfg0.N) (ix2 s j) = (dats m 0 c).arrAt 11 cfg0.N (ix2 r j) :=
    congrArg ((dats m 0 c).arrAt 11 cfg0.N) e
  refine hl.symm.trans (hb.trans ((flushed_normed m c t (ix2 s j)).trans ((normed_step m c t s j).trans ?_)))
  simp only [hrow]

end Cert.Output
end
-- ==== Proof.Latents.Spec.lean ====
/-
  The preparation of the latents: what both programs compute, entry by entry, and the reference's five results read so.
-/
module

public import proofs.«01_k».proof.Proof.Gen.Reference4Ideal.Run
public import Idealize.ShloMosaic.Lib.Pointwise

@[expose] public section

noncomputable section

namespace Cert.Latents

open Cert.Reference4Ideal Cert.Reference4Ideal.Gen Idealize.ShloMosaic Idealize.ShloMosaic.TcCoe

/-- One entry of the queries' latent: the first 512 columns of a row of `z`, divided by their root mean square, times the gain. -/
def cq (z : Vec Ideal S16384x4096 .bf16) (g : Vec Ideal S512 .f32) (r : Fin 16384) (k : Fin 512) : EReal :=
  z (ix2 r ⟨k.val, by have := k.isLt; omega⟩)
      * Ideal.rsqrt (Ideal.div (∑ j : Fin 512, z (ix2 r ⟨j.val, by have := j.isLt; omega⟩) * z (ix2 r ⟨j.val, by have := j.isLt; omega⟩))
          (Ideal.ofBits .f32 0x44000000#32) + Ideal.ofBits .f32 0x358637BD#32)
    * g (ix1 k)

/-- One entry of the keys' latent: the next 256 columns of a row of `z`, divided by their root mean square, times the gain. -/
def ckv (z : Vec Ideal S16384x4096 .bf16) (g : Vec Ideal S256 .f32) (r : Fin 16384) (k : Fin 256) : EReal :=
  z (ix2 r ⟨512 + k.val, by have := k.isLt; omega⟩)
      * Ideal.rsqrt (Ideal.div (∑ j : Fin 256, z (ix2 r ⟨512 + j.val, by have := j.isLt; omega⟩) * z (ix2 r ⟨512 + j.val, by have := j.isLt; omega⟩))
          (Ideal.ofBits .f32 0x43800000#32) + Ideal.ofBits .f32 0x358637BD#32)
    * g (ix1 k)

/-- One entry of the queries. -/
def query (z : Vec Ideal S16384x4096 .bf16) (g : Vec Ideal S512 .f32) (W : Vec Ideal S512x1024 .f32) (r : Fin 16384) (d : Fin 1024) : EReal :=
  ∑ k : Fin 512, cq z g r k * W (ix2 k d)

/-- One entry of a head's query in the space of the keys' latent, times the scale. -/
def latent (z : Vec Ideal S16384x4096 .bf16) (g : Vec Ideal S512 .f32) (W : Vec Ideal S512x1024 .f32) (U : Vec Ideal S256x8x128 .f32)
    (r : Fin 16384) (h : Fin 8) (e : Fin 256) : EReal :=
  (∑ d : Fin 128, U (ix3 e h d) * query z g W r ⟨h.val * 128 + d.val, by have := h.isLt; have := d.isLt; omega⟩)
    * Ideal.ofBits .f32 0x3E0293EE#32

/-- One entry of a head's query of the indexer; 64 zeros follow the 64 entries. -/
def index (z : Vec Ideal S16384x4096 .bf16) (g : Vec Ideal S512 .f32) (W : Vec Ideal S512x512 .f32) (r : Fin 16384) (h : Fin 8) (l : Fin 128) : EReal :=
  if hl : l.val < 64 then ∑ k : Fin 512, cq z g r k * W (ix2 k ⟨h.val * 64 + l.val, by have := h.isLt; omega⟩) else 0

/-- One entry of the indexer's key; 64 zeros follow the 64 entries. -/
def key (w : Vec Ideal S16384x128 .f32) (r : Fin 16384) (l : Fin 128) : EReal :=
  if l.val < 64 then w (ix2 r l) else 0

/-- The row of `z` of a batch and a position. -/
def row (b : Fin 4) (s : Fin 4096) : Fin 16384 := ⟨b.val * 4096 + s.val, by have := b.isLt; have := s.isLt; omega⟩

/-! ## The reference -/

/-- The reference's latent of the queries. -/
def refCq (z : Vec Ideal S16384x4096 .bf16) (g : Vec Ideal S512 .f32) : Vec Ideal S4x4096x512 .f32 :=
  mulf (F := Ideal) (φ := .f32) (mulf (extractStridedSlice S4x4096x512 ![0, 0, 0] (shapeCast _ (extf .f32 z bitsLt_bf16_f32) shapeCasts_S16384x4096_S4x4096x4096) slices_S4x4096x4096_S4x4096x512_0_0_0) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (extractStridedSlice S4x4096x512 ![0, 0, 0] (shapeCast _ (extf .f32 z bitsLt_bf16_f32) shapeCasts_S16384x4096_S4x4096x4096) slices_S4x4096x4096_S4x4096x512_0_0_0) (extractStridedSlice S4x4096x512 ![0, 0, 0] (shapeCast _ (extf .f32 z bitsLt_bf16_f32) shapeCasts_S16384x4096_S4x4096x4096) slices_S4x4096x4096_S4x4096x512_0_0_0)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 g))

/-- The reference's latent of the keys. -/
def refCkv (z : Vec Ideal S16384x4096 .bf16) (g : Vec Ideal S256 .f32) : Vec Ideal S4x4096x256 .f32 :=
  mulf (F := Ideal) (φ := .f32) (mulf (extractStridedSlice S4x4096x256 ![0, 0, 512] (shapeCast _ (extf .f32 z bitsLt_bf16_f32) shapeCasts_S16384x4096_S4x4096x4096) slices_S4x4096x4096_S4x4096x256_0_0_512) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 512] (shapeCast _ (extf .f32 z bitsLt_bf16_f32) shapeCasts_S16384x4096_S4x4096x4096) slices_S4x4096x4096_S4x4096x256_0_0_512) (extractStridedSlice S4x4096x256 ![0, 0, 512] (shapeCast _ (extf .f32 z bitsLt_bf16_f32) shapeCasts_S16384x4096_S4x4096x4096) slices_S4x4096x4096_S4x4096x256_0_0_512)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 g))

/-- The reference's queries, from the latent. -/
def refQ (C : Vec Ideal S4x4096x512 .f32) (W : Vec Ideal S512x1024 .f32) : Vec Ideal S4x4096x1024 .f32 :=
  Host.dotGeneral (F := Ideal) (φ₁ := .f32) (φ₂ := .f32) dot_S4x4096x512_S512x1024_S4x4096x1024_2_0_01_1_n_n none C W

/-- The reference's queries in the space of the keys' latent, from the queries. -/
def refLat (Q : Vec Ideal S4x4096x1024 .f32) (U : Vec Ideal S256x8x128 .f32) : Vec Ideal S8x256x4x4096 .f32 :=
  Host.dotGeneral (F := Ideal) (φ₁ := .f32) (φ₂ := .f32) dot_S256x8x128_S4x4096x8x128_S8x256x4x4096_2_3_0_01_1_2 none U
    (shapeCast _ Q shapeCasts_S4x4096x1024_S4x4096x8x128)

/-- The reference's queries of the indexer, from the latent. -/
def refIdx (C : Vec Ideal S4x4096x512 .f32) (W : Vec Ideal S512x512 .f32) : Vec Ideal S4x4096x512 .f32 :=
  Host.dotGeneral (F := Ideal) (φ₁ := .f32) (φ₂ := .f32) dot_S4x4096x512_S512x512_S4x4096x512_2_0_01_1_n_n none C W

/-- The reference's first result. -/
def refOut0 (L : Vec Ideal S8x256x4x4096 .f32) : Vec Ideal S4x32x256x1024 .bf16 :=
  truncf (F := Ideal) (φ := .f32) .bf16 (shapeCast _ (transpose S4x32x256x8x128 [0, 1, 4, 3, 2] (shapeCast _ (mulf (F := Ideal) (φ := .f32) (transpose S4x4096x8x256 [2, 3, 0, 1] L transposes_S8x256x4x4096_S4x4096x8x256_2_3_0_1) (broadcastInDim S4x4096x8x256 ![] bcast_S_S4x4096x8x256 (constant S_ .f32 0x3E0293EE#32))) shapeCasts_S4x4096x8x256_S4x32x128x8x256) transposes_S4x32x128x8x256_S4x32x256x8x128_0_1_4_3_2) shapeCasts_S4x32x256x8x128_S4x32x256x1024) bitsLt_bf16_f32

/-- The reference's second result. -/
def refOut1 (I : Vec Ideal S4x4096x512 .f32) : Vec Ideal S4x8x4096x128 .bf16 :=
  truncf (F := Ideal) (φ := .f32) .bf16 (pad S4x8x4096x128 ![0, 0, 0, 0] ![0, 0, 0, 64] ![0, 0, 0, 0] (transpose S4x8x4096x64 [0, 2, 1, 3] (shapeCast _ I shapeCasts_S4x4096x512_S4x4096x8x64) transposes_S4x4096x8x64_S4x8x4096x64_0_2_1_3) (sitofp .f32 (constantI S_ 32 0#32)) pads_S4x8x4096x64_S4x8x4096x128_000_000_000_0640 h_S_) bitsLt_bf16_f32

/-- The reference's third result. -/
def refOut2 (C : Vec Ideal S4x4096x256 .f32) : Vec Ideal S16384x256 .bf16 :=
  truncf (F := Ideal) (φ := .f32) .bf16 (shapeCast _ C shapeCasts_S4x4096x256_S16384x256) bitsLt_bf16_f32

/-- The reference's fourth result. -/
def refOut3 (C : Vec Ideal S4x4096x256 .f32) : Vec Ideal S4x16x256x256 .bf16 :=
  truncf (F := Ideal) (φ := .f32) .bf16 (transpose S4x16x256x256 [0, 1, 3, 2] (shapeCast _ C shapeCasts_S4x4096x256_S4x16x256x256) transposes_S4x16x256x256_S4x16x256x256_0_1_3_2) bitsLt_bf16_f32

/-- The reference's fifth result. -/
def refOut4 (w : Vec Ideal S16384x128 .f32) : Vec Ideal S16384x128 .bf16 :=
  truncf (F := Ideal) (φ := .f32) .bf16 (pad S16384x128 ![0, 0] ![0, 64] ![0, 0] (shapeCast _ (extractStridedSlice S4x4096x64 ![0, 0, 0] (shapeCast _ w shapeCasts_S16384x128_S4x4096x128) slices_S4x4096x128_S4x4096x64_0_0_0) shapeCasts_S4x4096x64_S16384x64) (sitofp .f32 (constantI S_ 32 0#32)) pads_S16384x64_S16384x128_000_0640 h_S_) bitsLt_bf16_f32

theorem refCq_at (z : Vec Ideal S16384x4096 .bf16) (g : Vec Ideal S512 .f32) (b : Fin 4) (s : Fin 4096) (k : Fin 512) :
    refCq z g (ix3 b s k) = cq z g (row b s) k := by
  pointwise [refCq]
  rfl

theorem refCkv_at (z : Vec Ideal S16384x4096 .bf16) (g : Vec Ideal S256 .f32) (b : Fin 4) (s : Fin 4096) (k : Fin 256) :
    refCkv z g (ix3 b s k) = ckv z g (row b s) k := by
  pointwise [refCkv]
  rfl

theorem refQ_at (C : Vec Ideal S4x4096x512 .f32) (W : Vec Ideal S512x1024 .f32) (b : Fin 4) (s : Fin 4096) (d : Fin 1024) :
    refQ C W (ix3 b s d) = ∑ k : Fin 512, C (ix3 b s k) * W (ix2 k d) := by
  pointwise [refQ]

theorem refIdx_at (C : Vec Ideal S4x4096x512 .f32) (W : Vec Ideal S512x512 .f32) (b : Fin 4) (s : Fin 4096) (d : Fin 512) :
    refIdx C W (ix3 b s d) = ∑ k : Fin 512, C (ix3 b s k) * W (ix2 k d) := by
  pointwise [refIdx]

theorem refLat_at (Q : Vec Ideal S4x4096x1024 .f32) (U : Vec Ideal S256x8x128 .f32) (b : Fin 4) (s : Fin 4096) (h : Fin 8) (e : Fin 256) :
    refLat Q U (ix4 h e b s)
      = ∑ d : Fin 128, U (ix3 e h d) * Q (ix3 b s ⟨h.val * 128 + d.val, by have := h.isLt; have := d.isLt; omega⟩) := by
  pointwise [refLat]

theorem refOut0_at (L : Vec Ideal S8x256x4x4096 .f32) (b : Fin 4) (n : Fin 32) (e : Fin 256) (c : Fin 1024) :
    refOut0 L (ix4 b n e c)
      = L (ix4 ⟨c.val / 128, by have := c.isLt; omega⟩ e b ⟨n.val * 128 + c.val % 128, by have := n.isLt; omega⟩) * Ideal.ofBits .f32 0x3E0293EE#32 := by
  pointwise [refOut0]

theorem word_zero : FloatOps.sitofp (F := Ideal) .f32 0#32 = (0 : EReal) := by
  show (((0#32 : BitVec 32).toInt : ℝ) : EReal) = 0
  simp

theorem refOut1_at (I : Vec Ideal S4x4096x512 .f32) (b : Fin 4) (h : Fin 8) (s : Fin 4096) (l : Fin 128) :
    refOut1 I (ix4 b h s l) = if hl : l.val < 64 then I (ix3 b s ⟨h.val * 64 + l.val, by have := h.isLt; omega⟩) else 0 := by
  pointwise [refOut1]
  simp only [word_zero]

theorem refOut2_at (C : Vec Ideal S4x4096x256 .f32) (r : Fin 16384) (k : Fin 256) :
    refOut2 C (ix2 r k) = C (ix3 ⟨r.val / 4096, by have := r.isLt; omega⟩ ⟨r.val % 4096, by omega⟩ k) := by
  pointwise [refOut2]

theorem refOut3_at (C : Vec Ideal S4x4096x256 .f32) (b : Fin 4) (n : Fin 16) (e x : Fin 256) :
    refOut3 C (ix4 b n e x) = C (ix3 b ⟨n.val * 256 + x.val, by have := n.isLt; have := x.isLt; omega⟩ e) := by
  pointwise [refOut3]

theorem refOut4_at (w : Vec Ideal S16384x128 .f32) (r : Fin 16384) (l : Fin 128) : refOut4 w (ix2 r l) = key w r l := by
  pointwise [refOut4]
  unfold key
  split_ifs
  · rfl
  · exact word_zero

variable (z : Vec Ideal S16384x4096 .bf16) (w : Vec Ideal S16384x128 .f32) (gq : Vec Ideal S512 .f32) (gkv : Vec Ideal S256 .f32)
  (W : Vec Ideal S512x1024 .f32) (U : Vec Ideal S256x8x128 .f32) (I : Vec Ideal S512x512 .f32)

theorem ref_lat (b : Fin 4) (n : Fin 32) (e : Fin 256) (c : Fin 1024) :
    refOut0 (refLat (refQ (refCq z gq) W) U) (ix4 b n e c)
      = latent z gq W U (row b ⟨n.val * 128 + c.val % 128, by have := n.isLt; omega⟩) ⟨c.val / 128, by have := c.isLt; omega⟩ e := by
  rw [refOut0_at, refLat_at]
  simp only [refQ_at, refCq_at]
  rfl

theorem ref_index (b : Fin 4) (h : Fin 8) (s : Fin 4096) (l : Fin 128) :
    refOut1 (refIdx (refCq z gq) I) (ix4 b h s l) = index z gq I (row b s) h l := by
  rw [refOut1_at]
  simp only [refIdx_at, refCq_at]
  rfl

theorem ref_ckv (r : Fin 16384) (k : Fin 256) : refOut2 (refCkv z gkv) (ix2 r k) = ckv z gkv r k := by
  rw [refOut2_at, refCkv_at]
  congr 1
  exact Fin.ext (show r.val / 4096 * 4096 + r.val % 4096 = r.val by omega)

theorem ref_ckvT (b : Fin 4) (n : Fin 16) (e x : Fin 256) :
    refOut3 (refCkv z gkv) (ix4 b n e x) = ckv z gkv (row b ⟨n.val * 256 + x.val, by have := n.isLt; have := x.isLt; omega⟩) e := by
  rw [refOut3_at, refCkv_at]

end Cert.Latents
end
-- ==== Proof.Latents.Block.lean ====
/-
  The preparation of the latents: what one step of the grid writes.
-/
module

public import proofs.«01_k».proof.Proof.Gen.Kernel4Ideal.Value
public import proofs.«01_k».proof.Proof.Latents.Spec
public import Idealize.ShloMosaic.Lib.StableHlo.RunRead
public import Idealize.ShloMosaic.Lib.Pointwise

@[expose] public section

noncomputable section

namespace Cert.Latents

open Cert.Kernel4Ideal Cert.Kernel4Ideal.Gen Idealize.ShloMosaic Idealize.ShloMosaic.TcCoe

/-! ## The body -/

theorem pay2_at (P0 : Vec Ideal S256x512 .bf16) (P1 : Vec Ideal S1x512 .f32) (r : Fin 256) (k : Fin 512) :
    k0_pay2 P0 P1 (ix2 r k)
      = P0 (ix2 r k) * Ideal.rsqrt (Ideal.div (∑ x, P0 (ix2 r x) * P0 (ix2 r x)) (Ideal.ofBits .f32 0x44000000#32) + Ideal.ofBits .f32 0x358637BD#32)
          * P1 (ix2 0 k) := by
  pointwise [k0_pay2]

theorem pay4_at (P0 : Vec Ideal S256x256 .bf16) (P1 : Vec Ideal S1x256 .f32) (r : Fin 256) (k : Fin 256) :
    k0_pay4 P0 P1 (ix2 r k)
      = P0 (ix2 r k) * Ideal.rsqrt (Ideal.div (∑ x, P0 (ix2 r x) * P0 (ix2 r x)) (Ideal.ofBits .f32 0x43800000#32) + Ideal.ofBits .f32 0x358637BD#32)
          * P1 (ix2 0 k) := by
  pointwise [k0_pay4, k0_pay3]

theorem pay6_at (P0 : Vec Ideal S256x256 .bf16) (P1 : Vec Ideal S1x256 .f32) (e x : Fin 256) :
    k0_pay6 (k0_pay5 P0 P1) (ix4 0 0 e x) = k0_pay4 P0 P1 (ix2 x e) := by
  pointwise [k0_pay6, k0_pay5, k0_pay4]

theorem pay7_at (C : Vec Ideal S256x512 .bf16) (W : Vec Ideal S512x1024 .bf16) (r : Fin 256) (d : Fin 1024) :
    k0_pay7 C W (ix2 r d) = ∑ k : Fin 512, C (ix2 r k) * W (ix2 k d) := by
  pointwise [k0_pay7]

theorem pay8_at (C : Vec Ideal S256x512 .bf16) (W : Vec Ideal S512x1024 .bf16) (r : Fin 256) (d : Fin 1024) :
    k0_pay8 C W (ix2 r d) = ∑ k : Fin 512, C (ix2 r k) * W (ix2 k d) := by
  pointwise [k0_pay8]

theorem pay1_at (P : Vec Ideal S256x128 .f32) (r : Fin 256) (l : Fin 128) :
    k0_pay1 (k0_pay46 P) (ix2 r l) = if l.val < 64 then P (ix2 r l) else 0 := by
  have hl := l.isLt
  pointwise [k0_pay1, k0_pay46]
  rw [WordCmp.cmpi_slt_ofNat (w := 32) (a := l.val) (b := 64) (show l.val < 2 ^ 31 by omega) (by decide)]
  by_cases h : l.val < 64
  · rw [if_pos h, decide_eq_true h]
    rfl
  · rw [if_neg h, decide_eq_false h]
    rfl

/-- The block of the heads' queries in the space of the keys' latent: head by head, a matrix of the latent's entries by
    rows. -/
def heads (Q : Vec Ideal S256x1024 .bf16) (U : Vec Ideal S8x256x128 .bf16) : Vec Ideal S1x2x256x1024 .bf16 := fun y =>
  (∑ d : Fin 128, U (ix3 ⟨(y 3).val / 128, by have h : (y 3).val < 1024 := (y 3).isLt; omega⟩ (y 2) d)
      * Q (ix2 ⟨(y 1).val * 128 + (y 3).val % 128, by have h : (y 1).val < 2 := (y 1).isLt; omega⟩
          ⟨(y 3).val / 128 * 128 + d.val, by have h : (y 3).val < 1024 := (y 3).isLt; have := d.isLt; omega⟩))
    * Ideal.ofBits .f32 0x3E0293EE#32

variable (Q : Vec Ideal S256x1024 .bf16) (U : Vec Ideal S8x256x128 .bf16) (C : Vec Ideal S256x512 .bf16) (W : Vec Ideal S512x1024 .bf16)

theorem heads_of (y : S1x2x256x1024.Idx) (h : Fin 8) (e : Fin 256) (q : Fin 256) (p : Fin 128 → Fin 1024)
    (h3 : h.val = (y 3).val / 128) (h2 : e.val = (y 2).val) (h1 : q.val = (y 1).val * 128 + (y 3).val % 128)
    (hp : ∀ d, (p d).val = h.val * 128 + d.val) :
    (∑ d : Fin 128, U (ix3 h e d) * Q (ix2 q (p d))) * Ideal.ofBits .f32 0x3E0293EE#32 = heads Q U y := by
  obtain rfl : e = y 2 := Fin.ext h2
  unfold heads
  congr 1
  refine Finset.sum_congr rfl fun d _ => ?_
  congr 2
  · congr 1
    exact Fin.ext h3
  · congr 1
    · exact Fin.ext h1
    · exact Fin.ext ((hp d).trans (by rw [h3]))

theorem head0_0 (x : S1x1x256x128.Idx) : k0_pay10 C W (View.ld U r0_6) x = heads (k0_pay7 C W) U (r0_7.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay10, k0_pay9]
  have hc := c.isLt
  refine heads_of (k0_pay7 C W) U (r0_7.emb (ix4 a 0 e c)) 0 e ⟨c.val, by omega⟩ (fun d => ⟨d.val, by have := d.isLt; omega⟩) ?_ ?_ ?_ ?_
  · show 0 = (0 + 1 * c.val) / 128
    omega
  · show e.val = 0 + 1 * e.val
    omega
  · show c.val = (0 + 1 * 0) * 128 + (0 + 1 * c.val) % 128
    omega
  · intro d
    show d.val = 0 * 128 + d.val
    omega

theorem head0_1 (x : S1x1x256x128.Idx) : k0_pay11 C W (View.ld U r0_6) x = heads (k0_pay7 C W) U (r0_8.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay11, k0_pay9]
  have hc := c.isLt
  refine heads_of (k0_pay7 C W) U (r0_8.emb (ix4 a 0 e c)) 0 e ⟨128 + c.val, by omega⟩ (fun d => ⟨d.val, by have := d.isLt; omega⟩) ?_ ?_ ?_ ?_
  · show 0 = (0 + 1 * c.val) / 128
    omega
  · show e.val = 0 + 1 * e.val
    omega
  · show 128 + c.val = (1 + 1 * 0) * 128 + (0 + 1 * c.val) % 128
    omega
  · intro d
    show d.val = 0 * 128 + d.val
    omega

theorem head1_0 (x : S1x1x256x128.Idx) : k0_pay14 (k0_pay13 C W (View.ld U r0_9)) x = heads (k0_pay7 C W) U (r0_10.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay14, k0_pay13, k0_pay12]
  have hc := c.isLt
  refine heads_of (k0_pay7 C W) U (r0_10.emb (ix4 a 0 e c)) 1 e ⟨c.val, by omega⟩ (fun d => ⟨128 + d.val, by have := d.isLt; omega⟩) ?_ ?_ ?_ ?_
  · show 1 = (128 + 1 * c.val) / 128
    omega
  · show e.val = 0 + 1 * e.val
    omega
  · show c.val = (0 + 1 * 0) * 128 + (128 + 1 * c.val) % 128
    omega
  · intro d
    show 128 + d.val = 1 * 128 + d.val
    omega

theorem head1_1 (x : S1x1x256x128.Idx) : k0_pay15 (k0_pay12 C W (View.ld U r0_9)) x = heads (k0_pay7 C W) U (r0_11.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay15, k0_pay12]
  have hc := c.isLt
  refine heads_of (k0_pay7 C W) U (r0_11.emb (ix4 a 0 e c)) 1 e ⟨128 + c.val, by omega⟩ (fun d => ⟨128 + d.val, by have := d.isLt; omega⟩) ?_ ?_ ?_ ?_
  · show 1 = (128 + 1 * c.val) / 128
    omega
  · show e.val = 0 + 1 * e.val
    omega
  · show 128 + c.val = (1 + 1 * 0) * 128 + (128 + 1 * c.val) % 128
    omega
  · intro d
    show 128 + d.val = 1 * 128 + d.val
    omega

theorem head2_0 (x : S1x1x256x128.Idx) : k0_pay17 Q (View.ld U r0_12) x = heads Q U (r0_13.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay17, k0_pay16]
  have hc := c.isLt
  refine heads_of Q U (r0_13.emb (ix4 a 0 e c)) 2 e ⟨c.val, by omega⟩ (fun d => ⟨256 + d.val, by have := d.isLt; omega⟩) ?_ ?_ ?_ ?_
  · show 2 = (256 + 1 * c.val) / 128
    omega
  · show e.val = 0 + 1 * e.val
    omega
  · show c.val = (0 + 1 * 0) * 128 + (256 + 1 * c.val) % 128
    omega
  · intro d
    show 256 + d.val = 2 * 128 + d.val
    omega

theorem head2_1 (x : S1x1x256x128.Idx) : k0_pay18 Q (View.ld U r0_12) x = heads Q U (r0_14.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay18, k0_pay16]
  have hc := c.isLt
  refine heads_of Q U (r0_14.emb (ix4 a 0 e c)) 2 e ⟨128 + c.val, by omega⟩ (fun d => ⟨256 + d.val, by have := d.isLt; omega⟩) ?_ ?_ ?_ ?_
  · show 2 = (256 + 1 * c.val) / 128
    omega
  · show e.val = 0 + 1 * e.val
    omega
  · show 128 + c.val = (1 + 1 * 0) * 128 + (256 + 1 * c.val) % 128
    omega
  · intro d
    show 256 + d.val = 2 * 128 + d.val
    omega

theorem head3_0 (x : S1x1x256x128.Idx) : k0_pay20 (k0_pay19 Q (View.ld U r0_15)) x = heads Q U (r0_16.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay20, k0_pay19]
  have hc := c.isLt
  refine heads_of Q U (r0_16.emb (ix4 a 0 e c)) 3 e ⟨c.val, by omega⟩ (fun d => ⟨384 + d.val, by have := d.isLt; omega⟩) ?_ ?_ ?_ ?_
  · show 3 = (384 + 1 * c.val) / 128
    omega
  · show e.val = 0 + 1 * e.val
    omega
  · show c.val = (0 + 1 * 0) * 128 + (384 + 1 * c.val) % 128
    omega
  · intro d
    show 384 + d.val = 3 * 128 + d.val
    omega

theorem head3_1 (x : S1x1x256x128.Idx) : k0_pay21 (k0_pay19 Q (View.ld U r0_15)) x = heads Q U (r0_17.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay21, k0_pay19]
  have hc := c.isLt
  refine heads_of Q U (r0_17.emb (ix4 a 0 e c)) 3 e ⟨128 + c.val, by omega⟩ (fun d => ⟨384 + d.val, by have := d.isLt; omega⟩) ?_ ?_ ?_ ?_
  · show 3 = (384 + 1 * c.val) / 128
    omega
  · show e.val = 0 + 1 * e.val
    omega
  · show 128 + c.val = (1 + 1 * 0) * 128 + (384 + 1 * c.val) % 128
    omega
  · intro d
    show 384 + d.val = 3 * 128 + d.val
    omega

theorem head4_0 (x : S1x1x256x128.Idx) : k0_pay23 Q (View.ld U r0_18) x = heads Q U (r0_19.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay23, k0_pay22]
  have hc := c.isLt
  refine heads_of Q U (r0_19.emb (ix4 a 0 e c)) 4 e ⟨c.val, by omega⟩ (fun d => ⟨512 + d.val, by have := d.isLt; omega⟩) ?_ ?_ ?_ ?_
  · show 4 = (512 + 1 * c.val) / 128
    omega
  · show e.val = 0 + 1 * e.val
    omega
  · show c.val = (0 + 1 * 0) * 128 + (512 + 1 * c.val) % 128
    omega
  · intro d
    show 512 + d.val = 4 * 128 + d.val
    omega

theorem head4_1 (x : S1x1x256x128.Idx) : k0_pay24 Q (View.ld U r0_18) x = heads Q U (r0_20.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay24, k0_pay22]
  have hc := c.isLt
  refine heads_of Q U (r0_20.emb (ix4 a 0 e c)) 4 e ⟨128 + c.val, by omega⟩ (fun d => ⟨512 + d.val, by have := d.isLt; omega⟩) ?_ ?_ ?_ ?_
  · show 4 = (512 + 1 * c.val) / 128
    omega
  · show e.val = 0 + 1 * e.val
    omega
  · show 128 + c.val = (1 + 1 * 0) * 128 + (512 + 1 * c.val) % 128
    omega
  · intro d
    show 512 + d.val = 4 * 128 + d.val
    omega

theorem head5_0 (x : S1x1x256x128.Idx) : k0_pay27 (k0_pay25 Q (View.ld U r0_21)) (Scalar.ofBits .f32 0x3E0293EE#32) x = heads Q U (r0_22.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay27, k0_pay26, k0_pay25]
  have hc := c.isLt
  refine heads_of Q U (r0_22.emb (ix4 a 0 e c)) 5 e ⟨c.val, by omega⟩ (fun d => ⟨640 + d.val, by have := d.isLt; omega⟩) ?_ ?_ ?_ ?_
  · show 5 = (640 + 1 * c.val) / 128
    omega
  · show e.val = 0 + 1 * e.val
    omega
  · show c.val = (0 + 1 * 0) * 128 + (640 + 1 * c.val) % 128
    omega
  · intro d
    show 640 + d.val = 5 * 128 + d.val
    omega

theorem head5_1 (x : S1x1x256x128.Idx) : k0_pay28 (k0_pay25 Q (View.ld U r0_21)) (Scalar.ofBits .f32 0x3E0293EE#32) x = heads Q U (r0_23.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay28, k0_pay26, k0_pay25]
  have hc := c.isLt
  refine heads_of Q U (r0_23.emb (ix4 a 0 e c)) 5 e ⟨128 + c.val, by omega⟩ (fun d => ⟨640 + d.val, by have := d.isLt; omega⟩) ?_ ?_ ?_ ?_
  · show 5 = (640 + 1 * c.val) / 128
    omega
  · show e.val = 0 + 1 * e.val
    omega
  · show 128 + c.val = (1 + 1 * 0) * 128 + (640 + 1 * c.val) % 128
    omega
  · intro d
    show 640 + d.val = 5 * 128 + d.val
    omega

theorem head6_0 (x : S1x1x256x128.Idx) : k0_pay30 Q (View.ld U r0_24) x = heads Q U (r0_25.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay30, k0_pay29]
  have hc := c.isLt
  refine heads_of Q U (r0_25.emb (ix4 a 0 e c)) 6 e ⟨c.val, by omega⟩ (fun d => ⟨768 + d.val, by have := d.isLt; omega⟩) ?_ ?_ ?_ ?_
  · show 6 = (768 + 1 * c.val) / 128
    omega
  · show e.val = 0 + 1 * e.val
    omega
  · show c.val = (0 + 1 * 0) * 128 + (768 + 1 * c.val) % 128
    omega
  · intro d
    show 768 + d.val = 6 * 128 + d.val
    omega

theorem head6_1 (x : S1x1x256x128.Idx) : k0_pay31 Q (View.ld U r0_24) x = heads Q U (r0_26.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay31, k0_pay29]
  have hc := c.isLt
  refine heads_of Q U (r0_26.emb (ix4 a 0 e c)) 6 e ⟨128 + c.val, by omega⟩ (fun d => ⟨768 + d.val, by have := d.isLt; omega⟩) ?_ ?_ ?_ ?_
  · show 6 = (768 + 1 * c.val) / 128
    omega
  · show e.val = 0 + 1 * e.val
    omega
  · show 128 + c.val = (1 + 1 * 0) * 128 + (768 + 1 * c.val) % 128
    omega
  · intro d
    show 768 + d.val = 6 * 128 + d.val
    omega

theorem head7_0 (x : S1x1x256x128.Idx) : k0_pay35 (k0_pay32 (View.ld U r0_27)) (k0_pay33 Q) (constant S256x256 .f32 0x00000000#32) x = heads Q U (r0_28.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay35, k0_pay34, k0_pay32, k0_pay33]
  have hc := c.isLt
  refine heads_of Q U (r0_28.emb (ix4 a 0 e c)) 7 e ⟨c.val, by omega⟩ (fun d => ⟨896 + d.val, by have := d.isLt; omega⟩) ?_ ?_ ?_ ?_
  · show 7 = (896 + 1 * c.val) / 128
    omega
  · show e.val = 0 + 1 * e.val
    omega
  · show c.val = (0 + 1 * 0) * 128 + (896 + 1 * c.val) % 128
    omega
  · intro d
    show 896 + d.val = 7 * 128 + d.val
    omega

theorem head7_1 (x : S1x1x256x128.Idx) : k0_pay36 (k0_pay32 (View.ld U r0_27)) (k0_pay33 Q) (constant S256x256 .f32 0x00000000#32) x = heads Q U (r0_29.emb x) := by
  obtain ⟨a, a', e, c, rfl⟩ : ∃ a a' e c, x = ix4 a a' e c := ⟨x 0, x 1, x 2, x 3, ValueIdx.eq_ix4 x⟩
  obtain rfl : a' = 0 := Fin.ext (by have := a'.isLt; omega)
  pointwise [k0_pay36, k0_pay34, k0_pay32, k0_pay33]
  have hc := c.isLt
  refine heads_of Q U (r0_29.emb (ix4 a 0 e c)) 7 e ⟨128 + c.val, by omega⟩ (fun d => ⟨896 + d.val, by have := d.isLt; omega⟩) ?_ ?_ ?_ ?_
  · show 7 = (896 + 1 * c.val) / 128
    omega
  · show e.val = 0 + 1 * e.val
    omega
  · show 128 + c.val = (1 + 1 * 0) * 128 + (896 + 1 * c.val) % 128
    omega
  · intro d
    show 896 + d.val = 7 * 128 + d.val
    omega

variable (x0 : Vec Ideal S256x512 .bf16) (x1 : Vec Ideal S256x256 .bf16) (x2 : Vec Ideal S256x128 .f32) (x3 : Vec Ideal S1x512 .f32)
  (x4 : Vec Ideal S1x256 .f32) (x5 x7 : Vec Ideal S512x1024 .bf16) (x6 : Vec Ideal S8x256x128 .bf16)

theorem out_lat (y : S1x2x256x1024.Idx) : out0_8 x0 x1 x2 x3 x4 x5 x6 x7 y = heads (k0_pay7 (k0_pay2 x0 x3) x5) x6 y := by
  have e0 : View.ld x0 r0_0 = x0 := by rw [View.ld_unit_zero (by decide)]
  have e3 : View.ld x3 r0_1 = x3 := by rw [View.ld_unit_zero (by decide)]
  have e5 : View.ld x5 r0_5 = x5 := by rw [View.ld_unit_zero (by decide)]
  unfold out0_8 k0_pay54 k0_pay53 k0_pay52 k0_pay51 k0_pay50 k0_pay48 k0_pay47
  rw [e0, e3, e5]
  refine View.canon_apply_of_pieces (heads (k0_pay7 (k0_pay2 x0 x3) x5) x6) _ ?_ y (cover0_8 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => head7_1 _ _ x
  · exact fun x => head7_0 _ _ x
  · exact fun x => head6_1 _ _ x
  · exact fun x => head6_0 _ _ x
  · exact fun x => head5_1 _ _ x
  · exact fun x => head5_0 _ _ x
  · exact fun x => head4_1 _ _ x
  · exact fun x => head4_0 _ _ x
  · exact fun x => head3_1 _ _ x
  · exact fun x => head3_0 _ _ x
  · exact fun x => head2_1 _ _ x
  · exact fun x => head2_0 _ _ x
  · exact fun x => head1_1 _ _ _ x
  · exact fun x => head1_0 _ _ _ x
  · exact fun x => head0_1 _ _ _ x
  · exact fun x => head0_0 _ _ _ x

theorem out_index (h : Fin 8) (s : Fin 256) (l : Fin 128) :
    out0_9 x0 x1 x2 x3 x4 x5 x6 x7 (ix4 0 h s l)
      = ∑ k : Fin 512, k0_pay2 x0 x3 (ix2 s k) * x7 (ix2 k ⟨h.val * 128 + l.val, by have := h.isLt; have := l.isLt; omega⟩) := by
  have e0 : View.ld x0 r0_0 = x0 := by rw [View.ld_unit_zero (by decide)]
  have e3 : View.ld x3 r0_1 = x3 := by rw [View.ld_unit_zero (by decide)]
  have e7 : View.ld x7 r0_5 = x7 := by rw [View.ld_unit_zero (by decide)]
  unfold out0_9 k0_pay49 k0_pay47
  rw [e0, e3, e7, Value.canon9_eq]
  have e : Value.ix9_0 (ix4 0 h s l) = ix2 s ⟨h.val * 128 + l.val, by have := h.isLt; have := l.isLt; omega⟩ := by
    funext i
    match i with
    | ⟨0, _⟩ => rfl
    | ⟨1, _⟩ => rfl
  show k0_pay8 (k0_pay2 x0 x3) x7 (Value.ix9_0 (ix4 0 h s l)) = _
  rw [e, pay8_at]

theorem out_ckv : out0_10 x0 x1 x2 x3 x4 x5 x6 x7 = k0_pay4 x1 x4 := by
  unfold out0_10
  rw [View.canon_unit_zero (by decide), View.ld_unit_zero (by decide), View.ld_unit_zero (by decide)]

theorem out_ckvT (e x : Fin 256) : out0_11 x0 x1 x2 x3 x4 x5 x6 x7 (ix4 0 0 e x) = k0_pay4 x1 x4 (ix2 x e) := by
  unfold out0_11
  rw [View.canon_unit_zero (by decide), View.ld_unit_zero (by decide), View.ld_unit_zero (by decide), pay6_at]

theorem out_key (r : Fin 256) (l : Fin 128) : out0_12 x0 x1 x2 x3 x4 x5 x6 x7 (ix2 r l) = if l.val < 64 then x2 (ix2 r l) else 0 := by
  unfold out0_12
  rw [View.canon_unit_zero (by decide), View.ld_unit_zero (by decide), pay1_at]

end Cert.Latents
end
-- ==== Proof.Latents.Run.lean ====
/-
  The preparation of the latents: the five arrays after the last step of the grid, entry by entry.
-/
module

public import proofs.«01_k».proof.Proof.Latents.Block

@[expose] public section

noncomputable section

namespace Cert.Latents

open Cert.Kernel4Ideal Cert.Kernel4Ideal.Gen Idealize.ShloMosaic Idealize.ShloMosaic.TcCoe

variable (m : (ℓ : Loc nD τ sig) → Buf (Elt Ideal) ℓ) (c : Dev nD)

/-! ## The arguments -/

/-- The projections. -/
abbrev argZ : Vec Ideal S16384x4096 .bf16 := m ((c.tc : Thread nD τ).loc main_arg0)
/-- The narrow columns of the projections. -/
abbrev argKw : Vec Ideal S16384x128 .f32 := m ((c.tc : Thread nD τ).loc main_arg1)
/-- The gain of the queries' latent. -/
abbrev argGq : Vec Ideal S512 .f32 := m ((c.tc : Thread nD τ).loc main_arg2)
/-- The gain of the keys' latent. -/
abbrev argGkv : Vec Ideal S256 .f32 := m ((c.tc : Thread nD τ).loc main_arg3)
/-- The weights from the latent to the queries. -/
abbrev argW : Vec Ideal S512x1024 .f32 := m ((c.tc : Thread nD τ).loc main_arg4)
/-- The weights from the queries to the keys' latent. -/
abbrev argU : Vec Ideal S256x8x128 .f32 := m ((c.tc : Thread nD τ).loc main_arg5)
/-- The weights from the latent to the indexer's queries. -/
abbrev argI : Vec Ideal S512x512 .f32 := m ((c.tc : Thread nD τ).loc main_arg6)

/-! ## What the host hands over, entry by entry -/

theorem V_gq : V m c main_v6 = shapeCast S1x512 (argGq m c) shapeCasts_S512_S1x512 := by
  dsimp only [V, hostOps0, hostOps0_1, hostOps0_2, List.flatten_cons, List.flatten_nil, List.append_nil, List.cons_append, List.nil_append]
  after_reads_simp
  rfl

theorem V_gkv : V m c main_v7 = shapeCast S1x256 (argGkv m c) shapeCasts_S256_S1x256 := by
  dsimp only [V, hostOps0, hostOps0_1, hostOps0_2, List.flatten_cons, List.flatten_nil, List.append_nil, List.cons_append, List.nil_append]
  after_reads_simp
  rfl

theorem V_w : V m c main_v8 = truncf (F := Ideal) (φ := .f32) .bf16 (argW m c) bitsLt_bf16_f32 := by
  dsimp only [V, hostOps0, hostOps0_1, hostOps0_2, List.flatten_cons, List.flatten_nil, List.append_nil, List.cons_append, List.nil_append]
  after_reads_simp

theorem V_u : V m c main_v1
    = truncf (F := Ideal) (φ := .f32) .bf16 (transpose S8x256x128 [1, 0, 2] (argU m c) transposes_S256x8x128_S8x256x128_1_0_2) bitsLt_bf16_f32 := by
  dsimp only [V, hostOps0, hostOps0_1, hostOps0_2, List.flatten_cons, List.flatten_nil, List.append_nil, List.cons_append, List.nil_append]
  after_reads_simp

/-- The indexer's weights as the host hands them over. -/
def hostI (W : Vec Ideal S512x512 .f32) : Vec Ideal S512x1024 .bf16 :=
  truncf (F := Ideal) (φ := .f32) .bf16 (shapeCast S512x1024 (pad S512x8x128 ![0, 0, 0] ![0, 0, 64] ![0, 0, 0]
    (shapeCast S512x8x64 W shapeCasts_S512x512_S512x8x64) (sitofp (F := Ideal) .f32 (constantI S_ 32 0#32)) pads_S512x8x64_S512x8x128_000_000_0640 h_S_)
    shapeCasts_S512x8x128_S512x1024) bitsLt_bf16_f32

theorem V_i : V m c main_v5 = hostI (argI m c) := by
  dsimp only [V, hostOps0, hostOps0_1, hostOps0_2, List.flatten_cons, List.flatten_nil, List.append_nil, List.cons_append, List.nil_append]
  after_reads_simp
  rfl

theorem hostI_at (W : Vec Ideal S512x512 .f32) (k : Fin 512) (h : Fin 8) (l : Fin 128) :
    hostI W (ix2 k ⟨h.val * 128 + l.val, by have := h.isLt; have := l.isLt; omega⟩)
      = if hl : l.val < 64 then W (ix2 k ⟨h.val * 64 + l.val, by have := h.isLt; omega⟩) else 0 := by
  have hh := h.isLt
  have hl := l.isLt
  pointwise [hostI]
  simp only [word_zero]

theorem gq_at (g : Vec Ideal S512 .f32) (k : Fin 512) : shapeCast S1x512 g shapeCasts_S512_S1x512 (ix2 0 k) = g (ix1 k) := by
  pointwise

theorem gkv_at (g : Vec Ideal S256 .f32) (k : Fin 256) : shapeCast S1x256 g shapeCasts_S256_S1x256 (ix2 0 k) = g (ix1 k) := by
  pointwise

theorem w_at (W : Vec Ideal S512x1024 .f32) (k : Fin 512) (d : Fin 1024) :
    truncf (F := Ideal) (φ := .f32) .bf16 W bitsLt_bf16_f32 (ix2 k d) = W (ix2 k d) := by
  pointwise

theorem u_at (U : Vec Ideal S256x8x128 .f32) (h : Fin 8) (e : Fin 256) (d : Fin 128) :
    truncf (F := Ideal) (φ := .f32) .bf16 (transpose S8x256x128 [1, 0, 2] U transposes_S256x8x128_S8x256x128_1_0_2) bitsLt_bf16_f32 (ix3 h e d)
      = U (ix3 e h d) := by
  pointwise

/-! ## The blocks a step reads and writes -/

theorem at0 : ∀ t : Fin cfg0.N, win0_0.index t 0 = t.val ∧ win0_0.index t 1 = 0 :=
  (by decide +kernel : ∀ t : Fin grid0.N, win0_0.index t 0 = t.val ∧ win0_0.index t 1 = 0)

theorem at1 : ∀ t : Fin cfg0.N, win0_1.index t 0 = t.val ∧ win0_1.index t 1 = 2 :=
  (by decide +kernel : ∀ t : Fin grid0.N, win0_1.index t 0 = t.val ∧ win0_1.index t 1 = 2)

theorem at2 : ∀ t : Fin cfg0.N, win0_2.index t 0 = t.val ∧ win0_2.index t 1 = 0 :=
  (by decide +kernel : ∀ t : Fin grid0.N, win0_2.index t 0 = t.val ∧ win0_2.index t 1 = 0)

theorem at3 : ∀ t : Fin cfg0.N, win0_3.index t 0 = 0 ∧ win0_3.index t 1 = 0 :=
  (by decide +kernel : ∀ t : Fin grid0.N, win0_3.index t 0 = 0 ∧ win0_3.index t 1 = 0)

theorem at4 : ∀ t : Fin cfg0.N, win0_4.index t 0 = 0 ∧ win0_4.index t 1 = 0 :=
  (by decide +kernel : ∀ t : Fin grid0.N, win0_4.index t 0 = 0 ∧ win0_4.index t 1 = 0)

theorem at5 : ∀ t : Fin cfg0.N, win0_5.index t 0 = 0 ∧ win0_5.index t 1 = 0 :=
  (by decide +kernel : ∀ t : Fin grid0.N, win0_5.index t 0 = 0 ∧ win0_5.index t 1 = 0)

theorem at6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

theorem at7 : ∀ t : Fin cfg0.N, win0_7.index t 0 = 0 ∧ win0_7.index t 1 = 0 :=
  (by decide +kernel : ∀ t : Fin grid0.N, win0_7.index t 0 = 0 ∧ win0_7.index t 1 = 0)

theorem at8 : ∀ t : Fin cfg0.N, win0_8.index t 0 = t.val / 16 ∧ win0_8.index t 1 = t.val % 16 ∧ win0_8.index t 2 = 0 ∧ win0_8.index t 3 = 0 :=
  (by decide +kernel : ∀ t : Fin grid0.N, win0_8.index t 0 = t.val / 16 ∧ win0_8.index t 1 = t.val % 16 ∧ win0_8.index t 2 = 0 ∧ win0_8.index t 3 = 0)

theorem at9 : ∀ t : Fin cfg0.N, win0_9.index t 0 = t.val / 16 ∧ win0_9.index t 1 = 0 ∧ win0_9.index t 2 = t.val % 16 ∧ win0_9.index t 3 = 0 :=
  (by decide +kernel : ∀ t : Fin grid0.N, win0_9.index t 0 = t.val / 16 ∧ win0_9.index t 1 = 0 ∧ win0_9.index t 2 = t.val % 16 ∧ win0_9.index t 3 = 0)

theorem at10 : ∀ t : Fin cfg0.N, win0_10.index t 0 = t.val ∧ win0_10.index t 1 = 0 :=
  (by decide +kernel : ∀ t : Fin grid0.N, win0_10.index t 0 = t.val ∧ win0_10.index t 1 = 0)

theorem at11 : ∀ t : Fin cfg0.N, win0_11.index t 0 = t.val / 16 ∧ win0_11.index t 1 = t.val % 16 ∧ win0_11.index t 2 = 0 ∧ win0_11.index t 3 = 0 :=
  (by decide +kernel : ∀ t : Fin grid0.N, win0_11.index t 0 = t.val / 16 ∧ win0_11.index t 1 = t.val % 16 ∧ win0_11.index t 2 = 0 ∧ win0_11.index t 3 = 0)

theorem at12 : ∀ t : Fin cfg0.N, win0_12.index t 0 = t.val ∧ win0_12.index t 1 = 0 :=
  (by decide +kernel : ∀ t : Fin grid0.N, win0_12.index t 0 = t.val ∧ win0_12.index t 1 = 0)

theorem steps (t : Fin cfg0.N) : t.val < 64 := t.isLt.trans_eq N_0

/-- The array's row under row `r` of the block of step `t`. -/
def rowOf (t : Fin cfg0.N) (r : Fin 256) : Fin 16384 := ⟨t.val * 256 + r.val, by have := steps t; have := r.isLt; omega⟩

theorem blk0 (t : Fin cfg0.N) (r : Fin 256) (k : Fin 512) : iblk m c 0 t (ix2 r k) = V m c main_arg0 (ix2 (rowOf t r) ⟨k.val, by have := k.isLt; omega⟩) := by
  show V m c main_arg0 (((cfg0.win 0).blk t).view.emb (ix2 r k)) = _
  congr 1
  obtain ⟨h0, h1⟩ := at0 t
  funext i
  match i with
  | ⟨0, _⟩ => exact Fin.ext (show win0_0.index t 0 * 256 + 1 * r.val = t.val * 256 + r.val by rw [h0]; omega)
  | ⟨1, _⟩ => exact Fin.ext (show win0_0.index t 1 * 512 + 1 * k.val = k.val by rw [h1]; omega)

theorem blk1 (t : Fin cfg0.N) (r : Fin 256) (k : Fin 256) : iblk m c 1 t (ix2 r k) = V m c main_arg0 (ix2 (rowOf t r) ⟨512 + k.val, by have := k.isLt; omega⟩) := by
  show V m c main_arg0 (((cfg0.win 1).blk t).view.emb (ix2 r k)) = _
  congr 1
  obtain ⟨h0, h1⟩ := at1 t
  funext i
  match i with
  | ⟨0, _⟩ => exact Fin.ext (show win0_1.index t 0 * 256 + 1 * r.val = t.val * 256 + r.val by rw [h0]; omega)
  | ⟨1, _⟩ => exact Fin.ext (show win0_1.index t 1 * 256 + 1 * k.val = 512 + k.val by rw [h1]; omega)

theorem blk2 (t : Fin cfg0.N) (r : Fin 256) (l : Fin 128) : iblk m c 2 t (ix2 r l) = V m c main_arg1 (ix2 (rowOf t r) l) := by
  show V m c main_arg1 (((cfg0.win 2).blk t).view.emb (ix2 r l)) = _
  congr 1
  obtain ⟨h0, h1⟩ := at2 t
  funext i
  match i with
  | ⟨0, _⟩ => exact Fin.ext (show win0_2.index t 0 * 256 + 1 * r.val = t.val * 256 + r.val by rw [h0]; omega)
  | ⟨1, _⟩ => exact Fin.ext (show win0_2.index t 1 * 128 + 1 * l.val = l.val by rw [h1]; omega)

theorem blk3 (t : Fin cfg0.N) (k : Fin 512) : iblk m c 3 t (ix2 0 k) = V m c main_v6 (ix2 0 k) := by
  show V m c main_v6 (((cfg0.win 3).blk t).view.emb (ix2 0 k)) = _
  congr 1
  obtain ⟨h0, h1⟩ := at3 t
  funext i
  match i with
  | ⟨0, _⟩ => exact Fin.ext (show win0_3.index t 0 * 1 + 1 * 0 = 0 by rw [h0])
  | ⟨1, _⟩ => exact Fin.ext (show win0_3.index t 1 * 512 + 1 * k.val = k.val by rw [h1]; omega)

theorem blk4 (t : Fin cfg0.N) (k : Fin 256) : iblk m c 4 t (ix2 0 k) = V m c main_v7 (ix2 0 k) := by
  show V m c main_v7 (((cfg0.win 4).blk t).view.emb (ix2 0 k)) = _
  congr 1
  obtain ⟨h0, h1⟩ := at4 t
  funext i
  match i with
  | ⟨0, _⟩ => exact Fin.ext (show win0_4.index t 0 * 1 + 1 * 0 = 0 by rw [h0])
  | ⟨1, _⟩ => exact Fin.ext (show win0_4.index t 1 * 256 + 1 * k.val = k.val by rw [h1]; omega)

theorem blk5 (t : Fin cfg0.N) (k : Fin 512) (d : Fin 1024) : iblk m c 5 t (ix2 k d) = V m c main_v8 (ix2 k d) := by
  show V m c main_v8 (((cfg0.win 5).blk t).view.emb (ix2 k d)) = _
  congr 1
  obtain ⟨h0, h1⟩ := at5 t
  funext i
  match i with
  | ⟨0, _⟩ => exact Fin.ext (show win0_5.index t 0 * 512 + 1 * k.val = k.val by rw [h0]; omega)
  | ⟨1, _⟩ => exact Fin.ext (show win0_5.index t 1 * 1024 + 1 * d.val = d.val by rw [h1]; omega)

theorem blk6 (t : Fin cfg0.N) (h : Fin 8) (e : Fin 256) (d : Fin 128) : iblk m c 6 t (ix3 h e d) = V m c main_v1 (ix3 h e d) := by
  show V m c main_v1 (((cfg0.win 6).blk t).view.emb (ix3 h e d)) = _
  congr 1
  obtain ⟨h0, h1, h2⟩ := at6 t
  funext i
  match i with
  | ⟨0, _⟩ => exact Fin.ext (show win0_6.index t 0 * 8 + 1 * h.val = h.val by rw [h0]; omega)
  | ⟨1, _⟩ => exact Fin.ext (show win0_6.index t 1 * 256 + 1 * e.val = e.val by rw [h1]; omega)
  | ⟨2, _⟩ => exact Fin.ext (show win0_6.index t 2 * 128 + 1 * d.val = d.val by rw [h2]; omega)

theorem blk7 (t : Fin cfg0.N) (k : Fin 512) (d : Fin 1024) : iblk m c 7 t (ix2 k d) = V m c main_v5 (ix2 k d) := by
  show V m c main_v5 (((cfg0.win 7).blk t).view.emb (ix2 k d)) = _
  congr 1
  obtain ⟨h0, h1⟩ := at7 t
  funext i
  match i with
  | ⟨0, _⟩ => exact Fin.ext (show win0_7.index t 0 * 512 + 1 * k.val = k.val by rw [h0]; omega)
  | ⟨1, _⟩ => exact Fin.ext (show win0_7.index t 1 * 1024 + 1 * d.val = d.val by rw [h1]; omega)

theorem in0 (t : Fin cfg0.N) (r : Fin 256) (k : Fin 512) :
    iblk m c 0 t (ix2 r k) = argZ m c (ix2 (rowOf t r) ⟨k.val, by have := k.isLt; omega⟩) :=
  (blk0 m c t r k).trans (congrFun (V_main_arg0 m c) _)

theorem in1 (t : Fin cfg0.N) (r : Fin 256) (k : Fin 256) :
    iblk m c 1 t (ix2 r k) = argZ m c (ix2 (rowOf t r) ⟨512 + k.val, by have := k.isLt; omega⟩) :=
  (blk1 m c t r k).trans (congrFun (V_main_arg0 m c) _)

theorem in2 (t : Fin cfg0.N) (r : Fin 256) (l : Fin 128) : iblk m c 2 t (ix2 r l) = argKw m c (ix2 (rowOf t r) l) :=
  (blk2 m c t r l).trans (congrFun (V_main_arg1 m c) _)

theorem in3 (t : Fin cfg0.N) (k : Fin 512) : iblk m c 3 t (ix2 0 k) = argGq m c (ix1 k) :=
  (blk3 m c t k).trans ((congrFun (V_gq m c) _).trans (gq_at _ _))

theorem in4 (t : Fin cfg0.N) (k : Fin 256) : iblk m c 4 t (ix2 0 k) = argGkv m c (ix1 k) :=
  (blk4 m c t k).trans ((congrFun (V_gkv m c) _).trans (gkv_at _ _))

theorem in5 (t : Fin cfg0.N) (k : Fin 512) (d : Fin 1024) : iblk m c 5 t (ix2 k d) = argW m c (ix2 k d) :=
  (blk5 m c t k d).trans ((congrFun (V_w m c) _).trans (w_at _ _ _))

theorem in6 (t : Fin cfg0.N) (h : Fin 8) (e : Fin 256) (d : Fin 128) : iblk m c 6 t (ix3 h e d) = argU m c (ix3 e h d) :=
  (blk6 m c t h e d).trans ((congrFun (V_u m c) _).trans (u_at _ _ _ _))

theorem in7 (t : Fin cfg0.N) (k : Fin 512) (h : Fin 8) (l : Fin 128) :
    iblk m c 7 t (ix2 k ⟨h.val * 128 + l.val, by have := h.isLt; have := l.isLt; omega⟩)
      = if hl : l.val < 64 then argI m c (ix2 k ⟨h.val * 64 + l.val, by have := h.isLt; omega⟩) else 0 :=
  (blk7 m c t k _).trans ((congrFun (V_i m c) _).trans (hostI_at _ _ _ _))

/-! ## One step, of blocks known entry by entry -/

section step

variable {x0 : Vec Ideal S256x512 .bf16} {x1 : Vec Ideal S256x256 .bf16} {x3 : Vec Ideal S1x512 .f32}
  {x4 : Vec Ideal S1x256 .f32} {x5 x7 : Vec Ideal S512x1024 .bf16} {x6 : Vec Ideal S8x256x128 .bf16}
  {z : Vec Ideal S16384x4096 .bf16} {gq : Vec Ideal S512 .f32} {gkv : Vec Ideal S256 .f32}
  {W : Vec Ideal S512x1024 .f32} {U : Vec Ideal S256x8x128 .f32} {I : Vec Ideal S512x512 .f32}

theorem cq_of {r : Fin 256} {R : Fin 16384} (h0 : ∀ k : Fin 512, x0 (ix2 r k) = z (ix2 R ⟨k.val, by have := k.isLt; omega⟩))
    (h3 : ∀ k, x3 (ix2 0 k) = gq (ix1 k)) (k : Fin 512) : k0_pay2 x0 x3 (ix2 r k) = cq z gq R k := by
  rw [pay2_at, h3]
  simp only [h0]
  rfl

theorem ckv_of {r : Fin 256} {R : Fin 16384} (h1 : ∀ k : Fin 256, x1 (ix2 r k) = z (ix2 R ⟨512 + k.val, by have := k.isLt; omega⟩))
    (h4 : ∀ k, x4 (ix2 0 k) = gkv (ix1 k)) (k : Fin 256) : k0_pay4 x1 x4 (ix2 r k) = ckv z gkv R k := by
  rw [pay4_at, h4]
  simp only [h1]
  rfl

theorem lat_of {u : Fin 2} {e : Fin 256} {d : Fin 1024} {r : Fin 256} {h : Fin 8} {R : Fin 16384}
    (hr : r.val = u.val * 128 + d.val % 128) (hh : h.val = d.val / 128)
    (h0 : ∀ k : Fin 512, x0 (ix2 r k) = z (ix2 R ⟨k.val, by have := k.isLt; omega⟩)) (h3 : ∀ k, x3 (ix2 0 k) = gq (ix1 k))
    (h5 : ∀ k d, x5 (ix2 k d) = W (ix2 k d)) (h6 : ∀ h e d, x6 (ix3 h e d) = U (ix3 e h d)) :
    heads (k0_pay7 (k0_pay2 x0 x3) x5) x6 (ix4 0 u e d) = latent z gq W U R h e := by
  rw [← heads_of (k0_pay7 (k0_pay2 x0 x3) x5) x6 (ix4 0 u e d) h e r
    (fun i => ⟨h.val * 128 + i.val, by have := h.isLt; have := i.isLt; omega⟩) hh rfl hr (fun _ => rfl)]
  unfold latent query
  simp only [pay7_at, cq_of h0 h3, h5, h6]

theorem index_of {r : Fin 256} {R : Fin 16384} {h : Fin 8} {l : Fin 128}
    (h0 : ∀ k : Fin 512, x0 (ix2 r k) = z (ix2 R ⟨k.val, by have := k.isLt; omega⟩)) (h3 : ∀ k, x3 (ix2 0 k) = gq (ix1 k))
    (h7 : ∀ k : Fin 512, x7 (ix2 k ⟨h.val * 128 + l.val, by have := h.isLt; have := l.isLt; omega⟩)
      = if hl : l.val < 64 then I (ix2 k ⟨h.val * 64 + l.val, by have := h.isLt; omega⟩) else 0) :
    ∑ k : Fin 512, k0_pay2 x0 x3 (ix2 r k) * x7 (ix2 k ⟨h.val * 128 + l.val, by have := h.isLt; have := l.isLt; omega⟩)
      = index z gq I R h l := by
  unfold index
  simp only [cq_of h0 h3, h7]
  split_ifs with hl
  · rfl
  · exact Finset.sum_eq_zero fun k _ => mul_zero _

end step

/-! ## The arrays -/

theorem final_lat (b : Fin 4) (n : Fin 32) (e : Fin 256) (d : Fin 1024) :
    (dats m 0 c).arrAt 8 cfg0.N (ix4 b n e d) = latent (argZ m c) (argGq m c) (argW m c) (argU m c) (row b ⟨n.val * 128 + d.val % 128, by have := n.isLt; omega⟩)
        ⟨d.val / 128, by have := d.isLt; omega⟩ e := by
  have hb' := b.isLt
  have hn := n.isLt
  have hd := d.isLt
  let t : Fin cfg0.N := ⟨b.val * 16 + n.val / 2, (show b.val * 16 + n.val / 2 < 64 by omega).trans_eq N_0.symm⟩
  let r : Fin 256 := ⟨n.val % 2 * 128 + d.val % 128, by omega⟩
  have hrow : rowOf t r = row b ⟨n.val * 128 + d.val % 128, by omega⟩ :=
    Fin.ext (show (b.val * 16 + n.val / 2) * 256 + (n.val % 2 * 128 + d.val % 128) = b.val * 4096 + (n.val * 128 + d.val % 128) by omega)
  have hb := congrFun ((Value.blocks8 m c t (flush0_8 t)).trans (Value.flushed8 m c t)) (ix4 0 ⟨n.val % 2, by omega⟩ e d)
  have e' : ((cfg0.win 8).blk t).view.emb (ix4 0 ⟨n.val % 2, by omega⟩ e d) = ix4 b n e d := by
    obtain ⟨h0, h1, h2, h3⟩ := at8 t
    funext i
    match i with
    | ⟨0, _⟩ => exact Fin.ext (show win0_8.index t 0 * 1 + 1 * (0) = b.val by rw [h0]; show (b.val * 16 + n.val / 2) / 16 * 1 + 1 * 0 = _; omega)
    | ⟨1, _⟩ => exact Fin.ext (show win0_8.index t 1 * 2 + 1 * (n.val % 2) = n.val by rw [h1]; show (b.val * 16 + n.val / 2) % 16 * 2 + 1 * (n.val % 2) = _; omega)
    | ⟨2, _⟩ => exact Fin.ext (show win0_8.index t 2 * 256 + 1 * e.val = e.val by rw [h2]; omega)
    | ⟨3, _⟩ => exact Fin.ext (show win0_8.index t 3 * 1024 + 1 * d.val = d.val by rw [h3]; omega)
  have hl := congrArg ((dats m 0 c).arrAt 8 cfg0.N) e'
  refine hl.symm.trans (Eq.trans hb ?_)
  show out0_8 (iblk m c 0 t) (iblk m c 1 t) (iblk m c 2 t) (iblk m c 3 t) (iblk m c 4 t) (iblk m c 5 t) (iblk m c 6 t) (iblk m c 7 t) (ix4 0 ⟨n.val % 2, by omega⟩ e d) = _
  rw [out_lat, ← hrow]
  exact lat_of (r := r) rfl rfl (in0 m c t r) (in3 m c t) (in5 m c t) (in6 m c t)

theorem final_index (b : Fin 4) (h : Fin 8) (s : Fin 4096) (l : Fin 128) :
    (dats m 0 c).arrAt 9 cfg0.N (ix4 b h s l) = index (argZ m c) (argGq m c) (argI m c) (row b s) h l := by
  have hb' := b.isLt
  have hs := s.isLt
  let t : Fin cfg0.N := ⟨b.val * 16 + s.val / 256, (show b.val * 16 + s.val / 256 < 64 by omega).trans_eq N_0.symm⟩
  let r : Fin 256 := ⟨s.val % 256, by omega⟩
  have hrow : rowOf t r = row b s :=
    Fin.ext (show (b.val * 16 + s.val / 256) * 256 + s.val % 256 = b.val * 4096 + s.val by omega)
  have hb := congrFun ((Value.blocks9 m c t (flush0_9 t)).trans (Value.flushed9 m c t)) (ix4 0 h ⟨s.val % 256, by omega⟩ l)
  have e' : ((cfg0.win 9).blk t).view.emb (ix4 0 h ⟨s.val % 256, by omega⟩ l) = ix4 b h s l := by
    obtain ⟨h0, h1, h2, h3⟩ := at9 t
    funext i
    match i with
    | ⟨0, _⟩ => exact Fin.ext (show win0_9.index t 0 * 1 + 1 * (0) = b.val by rw [h0]; show (b.val * 16 + s.val / 256) / 16 * 1 + 1 * 0 = _; omega)
    | ⟨1, _⟩ => exact Fin.ext (show win0_9.index t 1 * 8 + 1 * h.val = h.val by rw [h1]; omega)
    | ⟨2, _⟩ => exact Fin.ext (show win0_9.index t 2 * 256 + 1 * (s.val % 256) = s.val by rw [h2]; show (b.val * 16 + s.val / 256) % 16 * 256 + 1 * (s.val % 256) = _; omega)
    | ⟨3, _⟩ => exact Fin.ext (show win0_9.index t 3 * 128 + 1 * l.val = l.val by rw [h3]; omega)
  have hl := congrArg ((dats m 0 c).arrAt 9 cfg0.N) e'
  refine hl.symm.trans (Eq.trans hb ?_)
  show out0_9 (iblk m c 0 t) (iblk m c 1 t) (iblk m c 2 t) (iblk m c 3 t) (iblk m c 4 t) (iblk m c 5 t) (iblk m c 6 t) (iblk m c 7 t) (ix4 0 h ⟨s.val % 256, by omega⟩ l) = _
  rw [out_index, ← hrow]
  exact index_of (r := r) (in0 m c t r) (in3 m c t) (fun k => in7 m c t k h l)

theorem final_ckv (r : Fin 16384) (k : Fin 256) :
    (dats m 0 c).arrAt 10 cfg0.N (ix2 r k) = ckv (argZ m c) (argGkv m c) r k := by
  have hr := r.isLt
  let t : Fin cfg0.N := ⟨r.val / 256, (show r.val / 256 < 64 by omega).trans_eq N_0.symm⟩
  let s : Fin 256 := ⟨r.val % 256, by omega⟩
  have hrow : rowOf t s = r := Fin.ext (show r.val / 256 * 256 + r.val % 256 = r.val by omega)
  have hb := congrFun ((Value.blocks10 m c t (flush0_10 t)).trans (Value.flushed10 m c t)) (ix2 ⟨r.val % 256, by omega⟩ k)
  have e' : ((cfg0.win 10).blk t).view.emb (ix2 ⟨r.val % 256, by omega⟩ k) = ix2 r k := by
    obtain ⟨h0, h1⟩ := at10 t
    funext i
    match i with
    | ⟨0, _⟩ => exact Fin.ext (show win0_10.index t 0 * 256 + 1 * (r.val % 256) = r.val by rw [h0]; show r.val / 256 * 256 + 1 * (r.val % 256) = _; omega)
    | ⟨1, _⟩ => exact Fin.ext (show win0_10.index t 1 * 256 + 1 * k.val = k.val by rw [h1]; omega)
  have hl := congrArg ((dats m 0 c).arrAt 10 cfg0.N) e'
  refine hl.symm.trans (Eq.trans hb ?_)
  show out0_10 (iblk m c 0 t) (iblk m c 1 t) (iblk m c 2 t) (iblk m c 3 t) (iblk m c 4 t) (iblk m c 5 t) (iblk m c 6 t) (iblk m c 7 t) (ix2 ⟨r.val % 256, by omega⟩ k) = _
  rw [out_ckv]
  exact (ckv_of (r := s) (in1 m c t s) (in4 m c t) k).trans (congrArg (fun R => ckv (argZ m c) (argGkv m c) R k) hrow)

theorem final_ckvT (b : Fin 4) (n : Fin 16) (e x : Fin 256) :
    (dats m 0 c).arrAt 11 cfg0.N (ix4 b n e x) = ckv (argZ m c) (argGkv m c) (row b ⟨n.val * 256 + x.val, by have := n.isLt; have := x.isLt; omega⟩) e := by
  have hb' := b.isLt
  have hn := n.isLt
  have hx := x.isLt
  let t : Fin cfg0.N := ⟨b.val * 16 + n.val, (show b.val * 16 + n.val < 64 by omega).trans_eq N_0.symm⟩
  have hrow : rowOf t x = row b ⟨n.val * 256 + x.val, by omega⟩ :=
    Fin.ext (show (b.val * 16 + n.val) * 256 + x.val = b.val * 4096 + (n.val * 256 + x.val) by omega)
  have hb := congrFun ((Value.blocks11 m c t (flush0_11 t)).trans (Value.flushed11 m c t)) (ix4 0 0 e x)
  have e' : ((cfg0.win 11).blk t).view.emb (ix4 0 0 e x) = ix4 b n e x := by
    obtain ⟨h0, h1, h2, h3⟩ := at11 t
    funext i
    match i with
    | ⟨0, _⟩ => exact Fin.ext (show win0_11.index t 0 * 1 + 1 * (0) = b.val by rw [h0]; show (b.val * 16 + n.val) / 16 * 1 + 1 * 0 = _; omega)
    | ⟨1, _⟩ => exact Fin.ext (show win0_11.index t 1 * 1 + 1 * (0) = n.val by rw [h1]; show (b.val * 16 + n.val) % 16 * 1 + 1 * 0 = _; omega)
    | ⟨2, _⟩ => exact Fin.ext (show win0_11.index t 2 * 256 + 1 * e.val = e.val by rw [h2]; omega)
    | ⟨3, _⟩ => exact Fin.ext (show win0_11.index t 3 * 256 + 1 * x.val = x.val by rw [h3]; omega)
  have hl := congrArg ((dats m 0 c).arrAt 11 cfg0.N) e'
  refine hl.symm.trans (Eq.trans hb ?_)
  show out0_11 (iblk m c 0 t) (iblk m c 1 t) (iblk m c 2 t) (iblk m c 3 t) (iblk m c 4 t) (iblk m c 5 t) (iblk m c 6 t) (iblk m c 7 t) (ix4 0 0 e x) = _
  rw [out_ckvT, ← hrow]
  exact ckv_of (r := x) (in1 m c t x) (in4 m c t) e

theorem final_key (r : Fin 16384) (l : Fin 128) :
    (dats m 0 c).arrAt 12 cfg0.N (ix2 r l) = key (argKw m c) r l := by
  have hr := r.isLt
  let t : Fin cfg0.N := ⟨r.val / 256, (show r.val / 256 < 64 by omega).trans_eq N_0.symm⟩
  let s : Fin 256 := ⟨r.val % 256, by omega⟩
  have hrow : rowOf t s = r := Fin.ext (show r.val / 256 * 256 + r.val % 256 = r.val by omega)
  have hb := congrFun ((Value.blocks12 m c t (flush0_12 t)).trans (Value.flushed12 m c t)) (ix2 ⟨r.val % 256, by omega⟩ l)
  have e' : ((cfg0.win 12).blk t).view.emb (ix2 ⟨r.val % 256, by omega⟩ l) = ix2 r l := by
    obtain ⟨h0, h1⟩ := at12 t
    funext i
    match i with
    | ⟨0, _⟩ => exact Fin.ext (show win0_12.index t 0 * 256 + 1 * (r.val % 256) = r.val by rw [h0]; show r.val / 256 * 256 + 1 * (r.val % 256) = _; omega)
    | ⟨1, _⟩ => exact Fin.ext (show win0_12.index t 1 * 128 + 1 * l.val = l.val by rw [h1]; omega)
  have hl := congrArg ((dats m 0 c).arrAt 12 cfg0.N) e'
  refine hl.symm.trans (Eq.trans hb ?_)
  show out0_12 (iblk m c 0 t) (iblk m c 1 t) (iblk m c 2 t) (iblk m c 3 t) (iblk m c 4 t) (iblk m c 5 t) (iblk m c 6 t) (iblk m c 7 t) (ix2 ⟨r.val % 256, by omega⟩ l) = _
  rw [out_key]
  unfold key
  split_ifs
  · exact (in2 m c t s l).trans (congrArg (fun R => argKw m c (ix2 R l)) hrow)
  · rfl

end Cert.Latents
end
-- ==== Proof.lean ====
/-
  The proof of `Cert.Claim`. For the dispatch, both programs are followed once over any reading of the floats
  (`Dispatch/Both.lean`): the frames, the agreement over the extended reals and the agreement bit for bit are that
  one run, read at the instance each is stated at. For the input projection, both programs leave the same sums
  (`Projection/Spec.lean`), entry by entry; so for the output projection (`Output/Spec.lean`) and
  for the preparation of the latents (`Latents/Spec.lean`).
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Pre_ranked
public import proofs.«01_k».proof.Proof.Dispatch.Both
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Projection.Run
public import proofs.«01_k».proof.Proof.Output.Run
public import proofs.«01_k».proof.Proof.Latents.Run
public import Idealize.ShloMosaic.Lib.Tactic

@[expose] public section

noncomputable section

namespace Cert.Proof

open Idealize.ShloMosaic Idealize.SL.Sem

/-! ## The dispatch -/

/-- The frame, spelled over the one program text that both readings of the kernel share. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_ranked.fn (F := Bits) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frameBits : FrameBits := fun m ρ h =>
  (θ_run Cert.KernelIdeal.defs _ _).mono (fun _ hr => ⟨fun c => (hr.1 c).2, hr.2⟩)
    (Cert.Dispatch.run (F := Bits) m ρ (Cert.Dispatch.ranked_of _ _ _ (h 0)))

theorem frameBits_eq : FrameBits = Cert.quiescent_Kernel := by sl_kernel_rfl

theorem frame_kernel : Cert.quiescent_Kernel := frameBits_eq.mp frameBits

theorem frame_kernelIdeal : Cert.quiescent_KernelIdeal := fun m ρ h =>
  (θ_run Cert.KernelIdeal.defs _ _).mono (fun _ hr => ⟨fun c => (hr.1 c).2, hr.2⟩)
    (Cert.Dispatch.run (F := Ideal) m ρ (Cert.Dispatch.ranked_of _ _ _ (h 0)))

theorem frame_referenceIdeal : Cert.quiescent_ReferenceIdeal := fun m ρ _ =>
  (θ_run Cert.ReferenceIdeal.defs _ _).mono (fun _ hr => ⟨fun c => (hr.1 c).2, hr.2⟩) (Cert.Dispatch.ref_run (F := Ideal) m ρ)

theorem frame_referenceIdeal_ranked : Cert.quiescent_ReferenceIdeal_pre_ranked := fun m ρ _ =>
  (θ_run Cert.ReferenceIdeal.defs _ _).mono (fun _ hr => ⟨fun c => (hr.1 c).2, hr.2⟩) (Cert.Dispatch.ref_run (F := Ideal) m ρ)

theorem frame_reference : Cert.quiescent_Reference := fun m ρ _ =>
  (θ_run Cert.ReferenceIdeal.defs _ _).mono (fun _ hr => ⟨fun c => (hr.1 c).2, hr.2⟩) (Cert.Dispatch.ref_run (F := Bits) m ρ)

theorem algebraic : Cert.algebraic_KernelIdeal_ReferenceIdeal := fun m ρ m' ρ' h hagree =>
  ⟨fun c => Cert.Dispatch.result m c,
    (θ_run Cert.KernelIdeal.defs _ _).mono (fun _ hr c => hr.1 c) (Cert.Dispatch.run (F := Ideal) m ρ (Cert.Dispatch.ranked_of _ _ _ (h 0))),
    (θ_run Cert.ReferenceIdeal.defs _ _).mono (fun _ hr c => ⟨(hr.1 c).1.trans (by rw [(hagree c).1, (hagree c).2.2]; rfl), (hr.1 c).2⟩)
      (Cert.Dispatch.ref_run (F := Ideal) m' ρ')⟩

/-- The agreement bit for bit, spelled over the same texts. -/
def AgreeBits : Prop :=
  ∀ (m : (ℓ : Loc Cert.KernelIdeal.nD Cert.KernelIdeal.τ Cert.KernelIdeal.sig) → Buf (Elt Bits) ℓ) (g : Dev Cert.KernelIdeal.nD → PrngReg)
    (m' : (ℓ : Loc Cert.ReferenceIdeal.nD Cert.ReferenceIdeal.τ Cert.ReferenceIdeal.sig) → Buf (Elt Bits) ℓ) (g' : Dev Cert.ReferenceIdeal.nD → PrngReg),
    (∀ c : Dev Cert.KernelIdeal.nD, Cert.Pre_ranked.fn (F := Bits) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Bits) ((c.tc : Thread Cert.KernelIdeal.nD Cert.KernelIdeal.τ).loc Cert.KernelIdeal.main_v37)),
      θ_run (Cert.KernelIdeal.defs (F := Bits)) (onTc (τ := Cert.KernelIdeal.τ) (Cert.KernelIdeal.main (F := Bits))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Bits)) (onTc (τ := Cert.ReferenceIdeal.τ) (Cert.ReferenceIdeal.main (F := Bits))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

theorem agreeBits : AgreeBits := fun m ρ m' ρ' h hagree =>
  ⟨fun c => Cert.Dispatch.result (F := Bits) m c,
    (θ_run Cert.KernelIdeal.defs _ _).mono (fun _ hr c => hr.1 c) (Cert.Dispatch.run (F := Bits) m ρ (Cert.Dispatch.ranked_of _ _ _ (h 0))),
    (θ_run Cert.ReferenceIdeal.defs _ _).mono (fun _ hr c => ⟨(hr.1 c).1.trans (by rw [(hagree c).1, (hagree c).2.2]; rfl), (hr.1 c).2⟩)
      (Cert.Dispatch.ref_run (F := Bits) m' ρ')⟩

theorem agreeBits_eq : AgreeBits = Cert.bitexact_Kernel_Reference := by sl_kernel_rfl

theorem bitexact : Cert.bitexact_Kernel_Reference := agreeBits_eq.mp agreeBits

/-! ## The input projection -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r hr => ⟨fun c => (hr c).2.2, sem_eq_zero_of_no_sems (by decide) r.2⟩)
    (Cert.Reference2Ideal.Value.run (F := Ideal) m ρ)

theorem algebraic2 : Cert.algebraic_Kernel2Ideal_Reference2Ideal := fun m ρ m' ρ' _ hagree =>
  ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    Cert.Kernel2Ideal.Value.run_blocks (F := Ideal) m ρ,
    (θ_run Cert.Reference2Ideal.defs _ _).mono (fun r hr c => by
      obtain ⟨h0, h1, hrest⟩ := hr c
      obtain ⟨e0, e1, e2, e3⟩ := hagree c
      refine ⟨h0.trans ?_, h1.trans ?_, hrest⟩
      · funext y
        obtain ⟨i, j, rfl⟩ : ∃ i j, y = ix2 i j := ⟨y 0, y 1, ValueIdx.eq_ix2 y⟩
        refine (Cert.Projection.ref_z m' c i j).trans (Eq.trans ?_ (Cert.Projection.final_z m c i j).symm)
        rw [e0, e1, e2, e3]
      · funext y
        obtain ⟨i, j, rfl⟩ : ∃ i j, y = ix2 i j := ⟨y 0, y 1, ValueIdx.eq_ix2 y⟩
        refine (Cert.Projection.ref_kw m' c i j).trans (Eq.trans ?_ (Cert.Projection.final_kw m c i j).symm)
        rw [e0, e1, e2, e3])
      (Cert.Reference2Ideal.Value.run (F := Ideal) m' ρ')⟩

/-! ## The output projection -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r hr => ⟨fun c => (hr c).2.2, sem_eq_zero_of_no_sems (by decide) r.2⟩)
    (Cert.Reference3Ideal.Value.run (F := Ideal) m ρ)

theorem algebraic3 : Cert.algebraic_Kernel3Ideal_Reference3Ideal := fun m ρ m' ρ' _ hagree =>
  ⟨fun c => (Cert.Kernel3Ideal.Gen.dats m 0 c).arrAt 10 Cert.Kernel3Ideal.cfg0.N,
    fun c => (Cert.Kernel3Ideal.Gen.dats m 0 c).arrAt 11 Cert.Kernel3Ideal.cfg0.N,
    (θ_run Cert.Kernel3Ideal.defs _ _).mono (fun r hr c => ⟨(hr c).1, (hr c).2.1, (hr c).2.2.2.2.2⟩)
      (Cert.Kernel3Ideal.Value.run_blocks (F := Ideal) m ρ),
    (θ_run Cert.Reference3Ideal.defs _ _).mono (fun r hr c => by
      obtain ⟨h0, h1, hrest⟩ := hr c
      obtain ⟨e0, e1, e2, e3, e4, e5, -, -⟩ := hagree c
      refine ⟨h0.trans ?_, h1.trans ?_, hrest⟩
      · funext y
        obtain ⟨i, j, rfl⟩ : ∃ i j, y = ix2 i j := ⟨y 0, y 1, ValueIdx.eq_ix2 y⟩
        refine (Cert.Output.ref_mixed _ _ _ _ _ i j).trans (Eq.trans ?_ (Cert.Output.final_mixed m c i j).symm)
        rw [e0, e1, e2, e3, e5]
      · funext y
        obtain ⟨i, j, rfl⟩ : ∃ i j, y = ix2 i j := ⟨y 0, y 1, ValueIdx.eq_ix2 y⟩
        refine (Cert.Output.ref_normed _ _ _ _ _ _ i j).trans (Eq.trans ?_ (Cert.Output.final_normed m c i j).symm)
        rw [e0, e1, e2, e3, e4, e5])
      (Cert.Reference3Ideal.Value.run (F := Ideal) m' ρ')⟩

/-! ## The preparation of the latents -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r hr => ⟨fun c => (hr c).2.2.2.2.2, sem_eq_zero_of_no_sems (by decide) r.2⟩)
    (Cert.Reference4Ideal.Value.run (F := Ideal) m ρ)

theorem algebraic4 : Cert.algebraic_Kernel4Ideal_Reference4Ideal := fun m ρ m' ρ' _ hagree =>
  ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    Cert.Kernel4Ideal.Value.run_blocks (F := Ideal) m ρ,
    (θ_run Cert.Reference4Ideal.defs _ _).mono (fun r hr c => by
      obtain ⟨h0, h1, h2, h3, h4, hrest⟩ := hr c
      obtain ⟨e0, e1, e2, e3, e4, e5, e6⟩ := hagree c
      refine ⟨h0.trans ?_, h1.trans ?_, h2.trans ?_, h3.trans ?_, h4.trans ?_, hrest⟩
      · funext y
        obtain ⟨b, n, e, d, rfl⟩ : ∃ b n e d, y = ix4 b n e d := ⟨y 0, y 1, y 2, y 3, ValueIdx.eq_ix4 y⟩
        refine (Cert.Latents.ref_lat _ _ _ _ b n e d).trans (Eq.trans ?_ (Cert.Latents.final_lat m c b n e d).symm)
        rw [e0, e2, e4, e5]
      · funext y
        obtain ⟨b, h, s, l, rfl⟩ : ∃ b h s l, y = ix4 b h s l := ⟨y 0, y 1, y 2, y 3, ValueIdx.eq_ix4 y⟩
        refine (Cert.Latents.ref_index _ _ _ b h s l).trans (Eq.trans ?_ (Cert.Latents.final_index m c b h s l).symm)
        rw [e0, e2, e6]
      · funext y
        obtain ⟨r, k, rfl⟩ : ∃ r k, y = ix2 r k := ⟨y 0, y 1, ValueIdx.eq_ix2 y⟩
        refine (Cert.Latents.ref_ckv _ _ r k).trans (Eq.trans ?_ (Cert.Latents.final_ckv m c r k).symm)
        rw [e0, e3]
      · funext y
        obtain ⟨b, n, e, x, rfl⟩ : ∃ b n e x, y = ix4 b n e x := ⟨y 0, y 1, y 2, y 3, ValueIdx.eq_ix4 y⟩
        refine (Cert.Latents.ref_ckvT _ _ b n e x).trans (Eq.trans ?_ (Cert.Latents.final_ckvT m c b n e x).symm)
        rw [e0, e3]
      · funext y
        obtain ⟨s, l, rfl⟩ : ∃ s l, y = ix2 s l := ⟨y 0, y 1, ValueIdx.eq_ix2 y⟩
        refine (Cert.Latents.refOut4_at _ s l).trans (Eq.trans ?_ (Cert.Latents.final_key m c s l).symm)
        rw [e1])
      (Cert.Reference4Ideal.Value.run (F := Ideal) m' ρ')⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_ranked.Gen.facts,
    frame_kernel, frame_kernelIdeal, frame_referenceIdeal, frame_referenceIdeal_ranked, frame_reference,
    frame_kernel2, frame_kernel2Ideal, frame_reference2Ideal, frame_kernel3, frame_kernel3Ideal, frame_reference3Ideal,
    frame_kernel4, frame_kernel4Ideal, frame_reference4Ideal,
    trivial, algebraic, bitexact, trivial, algebraic2, trivial, algebraic3, trivial, algebraic4⟩

end Cert.Proof

end
